-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1024x512x3 : Shape := ⟨3, ![1024, 512, 3]⟩
abbrev S511x1024x64 : Shape := ⟨3, ![511, 1024, 64]⟩
abbrev S65x128 : Shape := ⟨2, ![65, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x32 : Shape := ⟨2, ![1, 32]⟩
abbrev S32 : Shape := ⟨1, ![32]⟩
abbrev S32x64 : Shape := ⟨2, ![32, 64]⟩
abbrev S_ : Shape := ⟨0, ![]⟩
abbrev S1x512x1 : Shape := ⟨3, ![1, 512, 1]⟩
abbrev S512 : Shape := ⟨1, ![512]⟩

class Facts : Prop where
  slices_S1024x512x3_S1x512x1_0_0_0 : S1024x512x3.Slices ![0, 0, 0] S1x512x1
  shapeCasts_S1x512x1_S512 : S1x512x1.ShapeCasts S512
  bcast_S_S512 : S_.BroadcastsInDim S512 (![] : Fin 0 → Fin S512.rank)
  reducesTo_S512_S_d0 : S512.ReducesTo [0] S_
  h_S_ : 0 < S_.numel
  bcast_S_S511x1024x64 : S_.BroadcastsInDim S511x1024x64 (![] : Fin 0 → Fin S511x1024x64.rank)
  reducesTo_S511x1024x64_S_d0_1_2 : S511x1024x64.ReducesTo [0, 1, 2] S_
  bcast_S_S65x128 : S_.BroadcastsInDim S65x128 (![] : Fin 0 → Fin S65x128.rank)
  reducesTo_S65x128_S_d0_1 : S65x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_

variable [Facts]

def fn_part2 {F : FTy → Type} [FloatOps F] (main_v33 : IVec S_ 1) (main_v34 : FVec F S_ .f32) : IVec S_ 1 :=
  let main_cst_11 : FVec F S_ .f32 := constant S_ .f32 0x7F800000#32
  let main_v35 : IVec S_ 1 := cmpf .olt main_v34 main_cst_11
  let main_v36 : IVec S_ 1 := andi main_v33 main_v35
  main_v36

def fn_part1 {F : FTy → Type} [FloatOps F] (main_arg3 : FVec F S128 .f32) (main_arg4 : FVec F S128x64 .f32) (main_arg6 : FVec F S64x1 .f32) (main_arg13 : FVec F S_ .f32) (main_v13 : IVec S_ 1) (main_v16 : IVec S65x128 1) (main_c_4 : IVec S_ 1) : IVec S_ 1 :=
  let main_v17 : IVec S_ 1 := (fun x v => Host.reduce IntOp.andi x v reducesTo_S65x128_S_d0_1 h_S_) main_v16 main_c_4
  let main_v18 : IVec S_ 1 := andi main_v13 main_v17
  let main_v19 : FVec F S128 .f32 := Host.absf main_arg3
  let main_cst_5 : FVec F S_ .f32 := constant S_ .f32 0x7F800000#32
  let main_v20 : FVec F S128 .f32 := broadcastInDim S128 ![] bcast_S_S128 main_cst_5
  let main_v21 : IVec S128 1 := cmpf .olt main_v19 main_v20
  let main_c_6 : IVec S_ 1 := constantI S_ 1 1#1
  let main_v22 : IVec S_ 1 := (fun x v => Host.reduce IntOp.andi x v reducesTo_S128_S_d0 h_S_) main_v21 main_c_6
  let main_v23 : IVec S_ 1 := andi main_v18 main_v22
  let main_v24 : FVec F S128x64 .f32 := Host.absf main_arg4
  let main_cst_7 : FVec F S_ .f32 := constant S_ .f32 0x7F800000#32
  let main_v25 : FVec F S128x64 .f32 := broadcastInDim S128x64 ![] bcast_S_S128x64 main_cst_7
  let main_v26 : IVec S128x64 1 := cmpf .olt main_v24 main_v25
  let main_c_8 : IVec S_ 1 := constantI S_ 1 1#1
  let main_v27 : IVec S_ 1 := (fun x v => Host.reduce IntOp.andi x v reducesTo_S128x64_S_d0_1 h_S_) main_v26 main_c_8
  let main_v28 : IVec S_ 1 := andi main_v23 main_v27
  let main_v29 : FVec F S64x1 .f32 := Host.absf main_arg6
  let main_cst_9 : FVec F S_ .f32 := constant S_ .f32 0x7F800000#32
  let main_v30 : FVec F S64x1 .f32 := broadcastInDim S64x1 ![] bcast_S_S64x1 main_cst_9
  let main_v31 : IVec S64x1 1 := cmpf .olt main_v29 main_v30
  let main_c_10 : IVec S_ 1 := constantI S_ 1 1#1
  let main_v32 : IVec S_ 1 := (fun x v => Host.reduce IntOp.andi x v reducesTo_S64x1_S_d0_1 h_S_) main_v31 main_c_10
  let main_v33 : IVec S_ 1 := andi main_v28 main_v32
  let main_v34 : FVec F S_ .f32 := Host.absf main_arg13
  fn_part2 (F := F) main_v33 main_v34

def fn {F : FTy → Type} [FloatOps F] (main_arg0 : FVec F S1024x512x3 .f32) (main_arg1 : FVec F S511x1024x64 .f32) (main_arg2 : FVec F S65x128 .f32) (main_arg3 : FVec F S128 .f32) (main_arg4 : FVec F S128x64 .f32) (main_arg5 : FVec F S64 .f32) (main_arg6 : FVec F S64x1 .f32) (main_arg7 : FVec F S1 .f32) (main_arg8 : FVec F S1x32 .f32) (main_arg9 : FVec F S32 .f32) (main_arg10 : FVec F S32x64 .f32) (main_arg11 : FVec F S64 .f32) (main_arg12 : FVec F S_ .f32) (main_arg13 : FVec F S_ .f32) : IVec S_ 1 :=
  let main_v0 : FVec F S1x512x1 .f32 := (extractStridedSlice S1x512x1 ![0, 0, 0] · slices_S1024x512x3_S1x512x1_0_0_0) main_arg0
  let main_v1 : FVec F S512 .f32 := shapeCast S512 main_v0 shapeCasts_S1x512x1_S512
  let main_v2 : FVec F S512 .f32 := sitofp .f32 (iotaInDim S512 32 0)
  let main_cst : FVec F S_ .f32 := constant S_ .f32 0x3F800000#32
  let main_v3 : FVec F S512 .f32 := broadcastInDim S512 ![] bcast_S_S512 main_cst
  let main_v4 : FVec F S512 .f32 := addf main_v2 main_v3
  let main_cst_0 : FVec F S_ .f32 := constant S_ .f32 0x3C23D70A#32
  let main_v5 : FVec F S512 .f32 := broadcastInDim S512 ![] bcast_S_S512 main_cst_0
  let main_v6 : FVec F S512 .f32 := mulf main_v4 main_v5
  let main_v7 : IVec S512 1 := cmpf .oeq main_v1 main_v6
  let main_c : IVec S_ 1 := constantI S_ 1 1#1
  let main_v8 : IVec S_ 1 := (fun x v => Host.reduce IntOp.andi x v reducesTo_S512_S_d0 h_S_) main_v7 main_c
  let main_v9 : FVec F S511x1024x64 .f32 := Host.absf main_arg1
  let main_cst_1 : FVec F S_ .f32 := constant S_ .f32 0x7F800000#32
  let main_v10 : FVec F S511x1024x64 .f32 := broadcastInDim S511x1024x64 ![] bcast_S_S511x1024x64 main_cst_1
  let main_v11 : IVec S511x1024x64 1 := cmpf .olt main_v9 main_v10
  let main_c_2 : IVec S_ 1 := constantI S_ 1 1#1
  let main_v12 : IVec S_ 1 := (fun x v => Host.reduce IntOp.andi x v reducesTo_S511x1024x64_S_d0_1_2 h_S_) main_v11 main_c_2
  let main_v13 : IVec S_ 1 := andi main_v8 main_v12
  let main_v14 : FVec F S65x128 .f32 := Host.absf main_arg2
  let main_cst_3 : FVec F S_ .f32 := constant S_ .f32 0x7F800000#32
  let main_v15 : FVec F S65x128 .f32 := broadcastInDim S65x128 ![] bcast_S_S65x128 main_cst_3
  let main_v16 : IVec S65x128 1 := cmpf .olt main_v14 main_v15
  let main_c_4 : IVec S_ 1 := constantI S_ 1 1#1
  fn_part1 (F := F) main_arg3 main_arg4 main_arg6 main_arg13 main_v13 main_v16 main_c_4
-- ==== Kernel.lean ====
abbrev S1024x512x3 : Shape := ⟨3, ![1024, 512, 3]⟩
abbrev S511x1024x64 : Shape := ⟨3, ![511, 1024, 64]⟩
abbrev S65x128 : Shape := ⟨2, ![65, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x32 : Shape := ⟨2, ![1, 32]⟩
abbrev S32 : Shape := ⟨1, ![32]⟩
abbrev S32x64 : Shape := ⟨2, ![32, 64]⟩
abbrev S_ : Shape := ⟨0, ![]⟩
abbrev S64x128 : Shape := ⟨2, ![64, 128]⟩
abbrev S1x128 : Shape := ⟨2, ![1, 128]⟩
abbrev S1x64 : Shape := ⟨2, ![1, 64]⟩
abbrev S128x128 : Shape := ⟨2, ![128, 128]⟩
abbrev S1x1 : Shape := ⟨2, ![1, 1]⟩
abbrev S1024x64 : Shape := ⟨2, ![1024, 64]⟩
abbrev S1024x1x3 : Shape := ⟨3, ![1024, 1, 3]⟩
abbrev S1024x3 : Shape := ⟨2, ![1024, 3]⟩
abbrev S512x1024x64 : Shape := ⟨3, ![512, 1024, 64]⟩
abbrev S16x1024x64 : Shape := ⟨3, ![16, 1024, 64]⟩
abbrev S16x1024x128 : Shape := ⟨3, ![16, 1024, 128]⟩
abbrev S16x1 : Shape := ⟨2, ![16, 1]⟩
abbrev S16x32 : Shape := ⟨2, ![16, 32]⟩
abbrev S16x64 : Shape := ⟨2, ![16, 64]⟩
abbrev S16x128 : Shape := ⟨2, ![16, 128]⟩
abbrev S16x1x64 : Shape := ⟨3, ![16, 1, 64]⟩
abbrev S16384x64 : Shape := ⟨2, ![16384, 64]⟩
abbrev S16384x128 : Shape := ⟨2, ![16384, 128]⟩
abbrev S15x128 : Shape := ⟨2, ![15, 128]⟩
abbrev S1024x128 : Shape := ⟨2, ![1024, 128]⟩
abbrev S1x1024x64 : Shape := ⟨3, ![1, 1024, 64]⟩
abbrev S1x1024x128 : Shape := ⟨3, ![1, 1024, 128]⟩
abbrev S1024x512x64 : Shape := ⟨3, ![1024, 512, 64]⟩

abbrev nBuf : Space → Nat
  | .hbm => 44
  | .vmem => 21
  | .smem => 0
  | _ => 0

abbrev bufTy : (tb : Table) → Fin (tcTables nBuf tb) → BufTy
  | .hbm, ⟨0, _⟩ => ⟨S1024x512x3, .f32⟩
  | .hbm, ⟨1, _⟩ => ⟨S511x1024x64, .f32⟩
  | .hbm, ⟨2, _⟩ => ⟨S65x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S1x32, .f32⟩
  | .hbm, ⟨9, _⟩ => ⟨S32, .f32⟩
  | .hbm, ⟨10, _⟩ => ⟨S32x64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S64x128, .f32⟩
  | .hbm, ⟨15, _⟩ => ⟨S1x128, .f32⟩
  | .hbm, ⟨16, _⟩ => ⟨S1x128, .f32⟩
  | .hbm, ⟨17, _⟩ => ⟨S1x64, .f32⟩
  | .hbm, ⟨18, _⟩ => ⟨S64, .f32⟩
  | .hbm, ⟨19, _⟩ => ⟨S64x128, .f32⟩
  | .hbm, ⟨20, _⟩ => ⟨S64x1, .f32⟩
  | .hbm, ⟨21, _⟩ => ⟨S64x128, .f32⟩
  | .hbm, ⟨22, _⟩ => ⟨S64x128, .f32⟩
  | .hbm, ⟨23, _⟩ => ⟨S64x128, .bf16⟩
  | .hbm, ⟨24, _⟩ => ⟨S128x64, .f32⟩
  | .hbm, ⟨25, _⟩ => ⟨S128x64, .bf16⟩
  | .hbm, ⟨26, _⟩ => ⟨S128x64, .bf16⟩
  | .hbm, ⟨27, _⟩ => ⟨S64x128, .bf16⟩
  | .hbm, ⟨28, _⟩ => ⟨S128x64, .f32⟩
  | .hbm, ⟨29, _⟩ => ⟨S128x128, .f32⟩
  | .hbm, ⟨30, _⟩ => ⟨S128x128, .bf16⟩
  | .hbm, ⟨31, _⟩ => ⟨S1x32, .f32⟩
  | .hbm, ⟨32, _⟩ => ⟨S1x64, .f32⟩
  | .hbm, ⟨33, _⟩ => ⟨S1x1, .f32⟩
  | .hbm, ⟨34, _⟩ => ⟨S1x1, .f32⟩
  | .hbm, ⟨35, _⟩ => ⟨S_, .f32⟩
  | .hbm, ⟨36, _⟩ => ⟨S1024x64, .f32⟩
  | .hbm, ⟨37, _⟩ => ⟨S1024x1x3, .f32⟩
  | .hbm, ⟨38, _⟩ => ⟨S1024x3, .f32⟩
  | .hbm, ⟨39, _⟩ => ⟨S_, .i32⟩
  | .hbm, ⟨40, _⟩ => ⟨S1, .i32⟩
  | .hbm, ⟨41, _⟩ => ⟨S1024x64, .f32⟩
  | .hbm, ⟨42, _⟩ => ⟨S512x1024x64, .f32⟩
  | .hbm, ⟨43, _⟩ => ⟨S1024x512x64, .f32⟩
  | .local _ .vmem, ⟨0, _⟩ => ⟨S16x1024x64, .f32⟩
  | .local _ .vmem, ⟨1, _⟩ => ⟨S16x1024x64, .f32⟩
  | .local _ .vmem, ⟨2, _⟩ => ⟨S1024x64, .f32⟩
  | .local _ .vmem, ⟨3, _⟩ => ⟨S64x128, .bf16⟩
  | .local _ .vmem, ⟨4, _⟩ => ⟨S1x128, .f32⟩
  | .local _ .vmem, ⟨5, _⟩ => ⟨S1x128, .f32⟩
  | .local _ .vmem, ⟨6, _⟩ => ⟨S128x64, .bf16⟩
  | .local _ .vmem, ⟨7, _⟩ => ⟨S1x64, .f32⟩
  | .local _ .vmem, ⟨8, _⟩ => ⟨S64x128, .bf16⟩
  | .local _ .vmem, ⟨9, _⟩ => ⟨S128x64, .bf16⟩
  | .local _ .vmem, ⟨10, _⟩ => ⟨S128x128, .bf16⟩
  | .local _ .vmem, ⟨11, _⟩ => ⟨S1x32, .f32⟩
  | .local _ .vmem, ⟨12, _⟩ => ⟨S1x32, .f32⟩
  | .local _ .vmem, ⟨13, _⟩ => ⟨S32x64, .f32⟩
  | .local _ .vmem, ⟨14, _⟩ => ⟨S1x64, .f32⟩
  | .local _ .vmem, ⟨15, _⟩ => ⟨S1x1, .f32⟩
  | .local _ .vmem, ⟨16, _⟩ => ⟨S1x1, .f32⟩
  | .local _ .vmem, ⟨17, _⟩ => ⟨S16x1024x64, .f32⟩
  | .local _ .vmem, ⟨18, _⟩ => ⟨S16x1024x64, .f32⟩
  | .local _ .vmem, ⟨19, _⟩ => ⟨S1024x64, .f32⟩
  | .local _ .vmem, ⟨20, _⟩ => ⟨S16x1024x128, .f32⟩
  | _, _ => ⟨S1024x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S16x1024x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S1024x512x3 : Shape := ⟨3, ![1024, 512, 3]⟩
abbrev S511x1024x64 : Shape := ⟨3, ![511, 1024, 64]⟩
abbrev S65x128 : Shape := ⟨2, ![65, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x32 : Shape := ⟨2, ![1, 32]⟩
abbrev S32 : Shape := ⟨1, ![32]⟩
abbrev S32x64 : Shape := ⟨2, ![32, 64]⟩
abbrev S_ : Shape := ⟨0, ![]⟩
abbrev S1x512x1 : Shape := ⟨3, ![1, 512, 1]⟩
abbrev S512 : Shape := ⟨1, ![512]⟩
abbrev S1024x64 : Shape := ⟨2, ![1024, 64]⟩
abbrev S1024x1x3 : Shape := ⟨3, ![1024, 1, 3]⟩
abbrev S1024x3 : Shape := ⟨2, ![1024, 3]⟩
abbrev S511 : Shape := ⟨1, ![511]⟩
abbrev S1x1024x64 : Shape := ⟨3, ![1, 1024, 64]⟩
abbrev S1024x1 : Shape := ⟨2, ![1024, 1]⟩
abbrev S1024x65 : Shape := ⟨2, ![1024, 65]⟩
abbrev S1024x128 : Shape := ⟨2, ![1024, 128]⟩
abbrev S1x128 : Shape := ⟨2, ![1, 128]⟩
abbrev S1x64 : Shape := ⟨2, ![1, 64]⟩
abbrev S1x1 : Shape := ⟨2, ![1, 1]⟩
abbrev S1024x511x64 : Shape := ⟨3, ![1024, 511, 64]⟩
abbrev S1024x1x64 : Shape := ⟨3, ![1024, 1, 64]⟩
abbrev S1024x512x64 : Shape := ⟨3, ![1024, 512, 64]⟩

abbrev nBuf : Space → Nat
  | .hbm => 154
  | .vmem => 0
  | .smem => 0
  | _ => 0

abbrev hbmTy0_0 (i : Nat) : BufTy := match i % 128 with
  | 0 => ⟨S1024x512x3, .f32⟩
  | 1 => ⟨S511x1024x64, .f32⟩
  | 2 => ⟨S65x128, .f32⟩
  | 3 => ⟨S128, .f32⟩
  | 4 => ⟨S128x64, .f32⟩
  | 5 => ⟨S64, .f32⟩
  | 6 => ⟨S64x1, .f32⟩
  | 7 => ⟨S1, .f32⟩
  | 8 => ⟨S1x32, .f32⟩
  | 9 => ⟨S32, .f32⟩
  | 10 => ⟨S32x64, .f32⟩
  | 11 => ⟨S64, .f32⟩
  | 12 => ⟨S_, .f32⟩
  | 13 => ⟨S_, .f32⟩
  | 14 => ⟨S1x512x1, .f32⟩
  | 15 => ⟨S512, .f32⟩
  | 16 => ⟨S_, .f32⟩
  | 17 => ⟨S_, .f32⟩
  | 18 => ⟨S_, .f32⟩
  | 19 => ⟨S1024x64, .f32⟩
  | 20 => ⟨S1024x1x3, .f32⟩
  | 21 => ⟨S1024x3, .f32⟩
  | 22 => ⟨S_, .i32⟩
  | 23 => ⟨S1, .i32⟩
  | 24 => ⟨S1024x64, .f32⟩
  | 25 => ⟨S511, .f32⟩
  | 26 => ⟨S511, .f32⟩
  | 27 => ⟨S_, .f32⟩
  | 28 => ⟨S511x1024x64, .f32⟩
  | 29 => ⟨S_, .i32⟩
  | 30 => ⟨S511, .f32⟩
  | 31 => ⟨S511, .f32⟩
  | 32 => ⟨S511x1024x64, .f32⟩
  | 33 => ⟨S65x128, .f32⟩
  | 34 => ⟨S128, .f32⟩
  | 35 => ⟨S128x64, .f32⟩
  | 36 => ⟨S64, .f32⟩
  | 37 => ⟨S64x1, .f32⟩
  | 38 => ⟨S1, .f32⟩
  | 39 => ⟨S1x32, .f32⟩
  | 40 => ⟨S32, .f32⟩
  | 41 => ⟨S32x64, .f32⟩
  | 42 => ⟨S64, .f32⟩
  | 43 => ⟨S_, .f32⟩
  | 44 => ⟨S_, .f32⟩
  | 45 => ⟨S_, .i32⟩
  | 46 => ⟨S1024x64, .f32⟩
  | 47 => ⟨S511x1024x64, .f32⟩
  | 48 => ⟨S_, .i32⟩
  | 49 => ⟨S_, .i1⟩
  | 50 => ⟨S1, .f32⟩
  | 51 => ⟨S_, .f32⟩
  | 52 => ⟨S1, .f32⟩
  | 53 => ⟨S_, .f32⟩
  | 54 => ⟨S_, .i32⟩
  | 55 => ⟨S_, .i32⟩
  | 56 => ⟨S1x1024x64, .f32⟩
  | 57 => ⟨S1024x64, .f32⟩
  | 58 => ⟨S_, .f32⟩
  | 59 => ⟨S_, .f32⟩
  | 60 => ⟨S1024x1, .f32⟩
  | 61 => ⟨S1024x1, .f32⟩
  | 62 => ⟨S1024x1, .f32⟩
  | 63 => ⟨S1024x65, .f32⟩
  | 64 => ⟨S_, .f32⟩
  | 65 => ⟨S1024x1, .f32⟩
  | 66 => ⟨S1024x128, .f32⟩
  | 67 => ⟨S1x128, .f32⟩
  | 68 => ⟨S1024x128, .f32⟩
  | 69 => ⟨S1024x128, .f32⟩
  | 70 => ⟨S1024x128, .f32⟩
  | 71 => ⟨S_, .f32⟩
  | 72 => ⟨S1024x128, .f32⟩
  | 73 => ⟨S1024x128, .f32⟩
  | 74 => ⟨S_, .f32⟩
  | 75 => ⟨S1024x128, .f32⟩
  | 76 => ⟨S1024x128, .f32⟩
  | 77 => ⟨S1024x128, .f32⟩
  | 78 => ⟨S1024x64, .f32⟩
  | 79 => ⟨S1x64, .f32⟩
  | 80 => ⟨S1024x64, .f32⟩
  | 81 => ⟨S1024x64, .f32⟩
  | 82 => ⟨S1024x64, .f32⟩
  | 83 => ⟨S_, .f32⟩
  | 84 => ⟨S1024x64, .f32⟩
  | 85 => ⟨S1024x64, .f32⟩
  | 86 => ⟨S_, .f32⟩
  | 87 => ⟨S1024x64, .f32⟩
  | 88 => ⟨S1024x64, .f32⟩
  | 89 => ⟨S1024x64, .f32⟩
  | 90 => ⟨S1024x1, .f32⟩
  | 91 => ⟨S1x1, .f32⟩
  | 92 => ⟨S1024x1, .f32⟩
  | 93 => ⟨S1024x1, .f32⟩
  | 94 => ⟨S_, .f32⟩
  | 95 => ⟨S_, .f32⟩
  | 96 => ⟨S_, .f32⟩
  | 97 => ⟨S1024x1, .f32⟩
  | 98 => ⟨S1024x64, .f32⟩
  | 99 => ⟨S1024x64, .f32⟩
  | 100 => ⟨S1024x128, .f32⟩
  | 101 => ⟨S1024x128, .f32⟩
  | 102 => ⟨S1024x65, .f32⟩
  | 103 => ⟨S1024x64, .f32⟩
  | 104 => ⟨S1024x1, .f32⟩
  | 105 => ⟨S1024x64, .f32⟩
  | 106 => ⟨S1024x64, .f32⟩
  | 107 => ⟨S1024x64, .f32⟩
  | 108 => ⟨S1024x64, .f32⟩
  | 109 => ⟨S1x1, .f32⟩
  | 110 => ⟨S1x32, .f32⟩
  | 111 => ⟨S1x32, .f32⟩
  | 112 => ⟨S1x32, .f32⟩
  | 113 => ⟨S_, .f32⟩
  | 114 => ⟨S1x32, .f32⟩
  | 115 => ⟨S1x32, .f32⟩
  | 116 => ⟨S1x64, .f32⟩
  | 117 => ⟨S1x64, .f32⟩
  | 118 => ⟨S1x64, .f32⟩
  | 119 => ⟨S_, .f32⟩
  | 120 => ⟨S1x64, .f32⟩
  | 121 => ⟨S1x64, .f32⟩
  | 122 => ⟨S1x64, .f32⟩
  | 123 => ⟨S1x64, .f32⟩
  | 124 => ⟨S1x64, .i1⟩
  | 125 => ⟨S1x64, .f32⟩
  | 126 => ⟨S1x64, .f32⟩
  | 127 => ⟨S1x64, .f32⟩
  | _ => ⟨S1024x512x3, .f32⟩

abbrev hbmTy0_1 (i : Nat) : BufTy := match i % 128 with
  | 0 => ⟨S1x64, .f32⟩
  | 1 => ⟨S1x64, .f32⟩
  | 2 => ⟨S1x64, .f32⟩
  | 3 => ⟨S1x64, .f32⟩
  | 4 => ⟨S1x64, .f32⟩
  | 5 => ⟨S1x64, .f32⟩
  | 6 => ⟨S1x64, .f32⟩
  | 7 => ⟨S1x64, .f32⟩
  | 8 => ⟨S1x64, .f32⟩
  | 9 => ⟨S1x64, .f32⟩
  | 10 => ⟨S1x64, .f32⟩
  | 11 => ⟨S1024x64, .f32⟩
  | 12 => ⟨S1024x64, .f32⟩
  | 13 => ⟨S_, .f32⟩
  | 14 => ⟨S1024x64, .f32⟩
  | 15 => ⟨S1024x64, .f32⟩
  | 16 => ⟨S1024x64, .f32⟩
  | 17 => ⟨S1x1024x64, .f32⟩
  | 18 => ⟨S_, .i32⟩
  | 19 => ⟨S_, .i32⟩
  | 20 => ⟨S511x1024x64, .f32⟩
  | 21 => ⟨S_, .i32⟩
  | 22 => ⟨S_, .i32⟩
  | 23 => ⟨S1024x511x64, .f32⟩
  | 24 => ⟨S1024x1x64, .f32⟩
  | 25 => ⟨S1024x512x64, .f32⟩
  | _ => ⟨S1024x512x3, .f32⟩

abbrev hbmTy (i : Nat) : BufTy := match i / 128 with
  | 0 => hbmTy0_0 i
  | 1 => hbmTy0_1 i
  | _ => ⟨S1024x512x3, .f32⟩

abbrev bufTy : (tb : Table) → Fin (tcTables nBuf tb) → BufTy
  | .hbm, ⟨i, _⟩ => hbmTy i
  | _, _ => ⟨S1024x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_c_1 : Ref sig .tc := ⟨.hbm, 29, rfl⟩
abbrev main_v12_0 : Ref sig .tc := ⟨.hbm, 30, rfl⟩
abbrev main_v12_1 : Ref sig .tc := ⟨.hbm, 31, rfl⟩
abbrev main_v12_2 : Ref sig .tc := ⟨.hbm, 32, rfl⟩
abbrev main_v12_3 : Ref sig .tc := ⟨.hbm, 33, rfl⟩
abbrev main_v12_4 : Ref sig .tc := ⟨.hbm, 34, rfl⟩
abbrev main_v12_5 : Ref sig .tc := ⟨.hbm, 35, rfl⟩
abbrev main_v12_6 : Ref sig .tc := ⟨.hbm, 36, rfl⟩
abbrev main_v12_7 : Ref sig .tc := ⟨.hbm, 37, rfl⟩
abbrev main_v12_8 : Ref sig .tc := ⟨.hbm, 38, rfl⟩
abbrev main_v12_9 : Ref sig .tc := ⟨.hbm, 39, rfl⟩
abbrev main_v12_10 : Ref sig .tc := ⟨.hbm, 40, rfl⟩
abbrev main_v12_11 : Ref sig .tc := ⟨.hbm, 41, rfl⟩
abbrev main_v12_12 : Ref sig .tc := ⟨.hbm, 42, rfl⟩
abbrev main_v12_13 : Ref sig .tc := ⟨.hbm, 43, rfl⟩
abbrev main_v12_14 : Ref sig .tc := ⟨.hbm, 44, rfl⟩
abbrev main_v12_15 : Ref sig .tc := ⟨.hbm, 45, rfl⟩
abbrev main_v12_16 : Ref sig .tc := ⟨.hbm, 46, rfl⟩
abbrev main_v12_17 : Ref sig .tc := ⟨.hbm, 47, rfl⟩
abbrev main_while0c_c_19 : Ref sig .tc := ⟨.hbm, 48, rfl⟩
abbrev main_while0c_v16 : Ref sig .tc := ⟨.hbm, 49, rfl⟩
abbrev main_while0b_call0_v0 : Ref sig .tc := ⟨.hbm, 50, rfl⟩
abbrev main_while0b_v16 : Ref sig .tc := ⟨.hbm, 51, rfl⟩
abbrev main_while0b_call1_v0 : Ref sig .tc := ⟨.hbm, 52, rfl⟩
abbrev main_while0b_v17 : Ref sig .tc := ⟨.hbm, 53, rfl⟩
abbrev main_while0b_call2_c : Ref sig .tc := ⟨.hbm, 54, rfl⟩
abbrev main_while0b_call2_c_0 : Ref sig .tc := ⟨.hbm, 55, rfl⟩
abbrev main_while0b_call2_v0 : Ref sig .tc := ⟨.hbm, 56, rfl⟩
abbrev main_while0b_v18 : Ref sig .tc := ⟨.hbm, 57, rfl⟩
abbrev main_while0b_v19 : Ref sig .tc := ⟨.hbm, 58, rfl⟩
abbrev main_while0b_cst_19 : Ref sig .tc := ⟨.hbm, 59, rfl⟩
abbrev main_while0b_v20 : Ref sig .tc := ⟨.hbm, 60, rfl⟩
abbrev main_while0b_v21 : Ref sig .tc := ⟨.hbm, 61, rfl⟩
abbrev main_while0b_v22 : Ref sig .tc := ⟨.hbm, 62, rfl⟩
abbrev main_while0b_v23 : Ref sig .tc := ⟨.hbm, 63, rfl⟩
abbrev main_while0b_cst_20 : Ref sig .tc := ⟨.hbm, 64, rfl⟩
abbrev main_while0b_v24 : Ref sig .tc := ⟨.hbm, 65, rfl⟩
abbrev main_while0b_v25 : Ref sig .tc := ⟨.hbm, 66, rfl⟩
abbrev main_while0b_v26 : Ref sig .tc := ⟨.hbm, 67, rfl⟩
abbrev main_while0b_v27 : Ref sig .tc := ⟨.hbm, 68, rfl⟩
abbrev main_while0b_v28 : Ref sig .tc := ⟨.hbm, 69, rfl⟩
abbrev main_while0b_v29 : Ref sig .tc := ⟨.hbm, 70, rfl⟩
abbrev main_while0b_cst_21 : Ref sig .tc := ⟨.hbm, 71, rfl⟩
abbrev main_while0b_v30 : Ref sig .tc := ⟨.hbm, 72, rfl⟩
abbrev main_while0b_v31 : Ref sig .tc := ⟨.hbm, 73, rfl⟩
abbrev main_while0b_cst_22 : Ref sig .tc := ⟨.hbm, 74, rfl⟩
abbrev main_while0b_v32 : Ref sig .tc := ⟨.hbm, 75, rfl⟩
abbrev main_while0b_v33 : Ref sig .tc := ⟨.hbm, 76, rfl⟩
abbrev main_while0b_v34 : Ref sig .tc := ⟨.hbm, 77, rfl⟩
abbrev main_while0b_v35 : Ref sig .tc := ⟨.hbm, 78, rfl⟩
abbrev main_while0b_v36 : Ref sig .tc := ⟨.hbm, 79, rfl⟩
abbrev main_while0b_v37 : Ref sig .tc := ⟨.hbm, 80, rfl⟩
abbrev main_while0b_v38 : Ref sig .tc := ⟨.hbm, 81, rfl⟩
abbrev main_while0b_v39 : Ref sig .tc := ⟨.hbm, 82, rfl⟩
abbrev main_while0b_cst_23 : Ref sig .tc := ⟨.hbm, 83, rfl⟩
abbrev main_while0b_v40 : Ref sig .tc := ⟨.hbm, 84, rfl⟩
abbrev main_while0b_v41 : Ref sig .tc := ⟨.hbm, 85, rfl⟩
abbrev main_while0b_cst_24 : Ref sig .tc := ⟨.hbm, 86, rfl⟩
abbrev main_while0b_v42 : Ref sig .tc := ⟨.hbm, 87, rfl⟩
abbrev main_while0b_v43 : Ref sig .tc := ⟨.hbm, 88, rfl⟩
abbrev main_while0b_v44 : Ref sig .tc := ⟨.hbm, 89, rfl⟩
abbrev main_while0b_v45 : Ref sig .tc := ⟨.hbm, 90, rfl⟩
abbrev main_while0b_v46 : Ref sig .tc := ⟨.hbm, 91, rfl⟩
abbrev main_while0b_v47 : Ref sig .tc := ⟨.hbm, 92, rfl⟩
abbrev main_while0b_v48 : Ref sig .tc := ⟨.hbm, 93, rfl⟩
abbrev main_while0b_cst_25 : Ref sig .tc := ⟨.hbm, 94, rfl⟩
abbrev main_while0b_v49 : Ref sig .tc := ⟨.hbm, 95, rfl⟩
abbrev main_while0b_cst_26 : Ref sig .tc := ⟨.hbm, 96, rfl⟩
abbrev main_while0b_v50 : Ref sig .tc := ⟨.hbm, 97, rfl⟩
abbrev main_while0b_v51 : Ref sig .tc := ⟨.hbm, 98, rfl⟩
abbrev main_while0b_v52 : Ref sig .tc := ⟨.hbm, 99, rfl⟩
abbrev main_while0b_v53 : Ref sig .tc := ⟨.hbm, 100, rfl⟩
abbrev main_while0b_v54 : Ref sig .tc := ⟨.hbm, 101, rfl⟩
abbrev main_while0b_v55 : Ref sig .tc := ⟨.hbm, 102, rfl⟩
abbrev main_while0b_v56 : Ref sig .tc := ⟨.hbm, 103, rfl⟩
abbrev main_while0b_v57 : Ref sig .tc := ⟨.hbm, 104, rfl⟩
abbrev main_while0b_v58 : Ref sig .tc := ⟨.hbm, 105, rfl⟩
abbrev main_while0b_v59 : Ref sig .tc := ⟨.hbm, 106, rfl⟩
abbrev main_while0b_v60 : Ref sig .tc := ⟨.hbm, 107, rfl⟩
abbrev main_while0b_v61 : Ref sig .tc := ⟨.hbm, 108, rfl⟩
abbrev main_while0b_v62 : Ref sig .tc := ⟨.hbm, 109, rfl⟩
abbrev main_while0b_v63 : Ref sig .tc := ⟨.hbm, 110, rfl⟩
abbrev main_while0b_v64 : Ref sig .tc := ⟨.hbm, 111, rfl⟩
abbrev main_while0b_v65 : Ref sig .tc := ⟨.hbm, 112, rfl⟩
abbrev main_while0b_call3_cst : Ref sig .tc := ⟨.hbm, 113, rfl⟩
abbrev main_while0b_call3_v0 : Ref sig .tc := ⟨.hbm, 114, rfl⟩
abbrev main_while0b_v66 : Ref sig .tc := ⟨.hbm, 115, rfl⟩
abbrev main_while0b_v67 : Ref sig .tc := ⟨.hbm, 116, rfl⟩
abbrev main_while0b_v68 : Ref sig .tc := ⟨.hbm, 117, rfl⟩
abbrev main_while0b_v69 : Ref sig .tc := ⟨.hbm, 118, rfl⟩
abbrev main_while0b_call4_cst : Ref sig .tc := ⟨.hbm, 119, rfl⟩
abbrev main_while0b_call4_v0 : Ref sig .tc := ⟨.hbm, 120, rfl⟩
abbrev main_while0b_call4_v1 : Ref sig .tc := ⟨.hbm, 121, rfl⟩
abbrev main_while0b_call4_v2 : Ref sig .tc := ⟨.hbm, 122, rfl⟩
abbrev main_while0b_call4_v3 : Ref sig .tc := ⟨.hbm, 123, rfl⟩
abbrev main_while0b_call4_v4 : Ref sig .tc := ⟨.hbm, 124, rfl⟩
abbrev main_while0b_call4_v5 : Ref sig .tc := ⟨.hbm, 125, rfl⟩
abbrev main_while0b_call4_v6 : Ref sig .tc := ⟨.hbm, 126, rfl⟩
abbrev main_while0b_call4_v7 : Ref sig .tc := ⟨.hbm, 127, rfl⟩
abbrev main_while0b_call4_v8 : Ref sig .tc := ⟨.hbm, 128, rfl⟩
abbrev main_while0b_call4_v9 : Ref sig .tc := ⟨.hbm, 129, rfl⟩
abbrev main_while0b_call4_v10 : Ref sig .tc := ⟨.hbm, 130, rfl⟩
abbrev main_while0b_call4_v11 : Ref sig .tc := ⟨.hbm, 131, rfl⟩
abbrev main_while0b_v70 : Ref sig .tc := ⟨.hbm, 132, rfl⟩
abbrev main_while0b_v71 : Ref sig .tc := ⟨.hbm, 133, rfl⟩
abbrev main_while0b_v72 : Ref sig .tc := ⟨.hbm, 134, rfl⟩
abbrev main_while0b_call5_v0 : Ref sig .tc := ⟨.hbm, 135, rfl⟩
abbrev main_while0b_call5_v1 : Ref sig .tc := ⟨.hbm, 136, rfl⟩
abbrev main_while0b_call5_v2 : Ref sig .tc := ⟨.hbm, 137, rfl⟩
abbrev main_while0b_v73 : Ref sig .tc := ⟨.hbm, 138, rfl⟩
abbrev main_while0b_v74 : Ref sig .tc := ⟨.hbm, 139, rfl⟩
abbrev main_while0b_v75 : Ref sig .tc := ⟨.hbm, 140, rfl⟩
abbrev main_while0b_v76 : Ref sig .tc := ⟨.hbm, 141, rfl⟩
abbrev main_while0b_v77 : Ref sig .tc := ⟨.hbm, 142, rfl⟩
abbrev main_while0b_v78 : Ref sig .tc := ⟨.hbm, 143, rfl⟩
abbrev main_while0b_v79 : Ref sig .tc := ⟨.hbm, 144, rfl⟩
abbrev main_while0b_call6_v0 : Ref sig .tc := ⟨.hbm, 145, rfl⟩
abbrev main_while0b_call6_c : Ref sig .tc := ⟨.hbm, 146, rfl⟩
abbrev main_while0b_call6_c_0 : Ref sig .tc := ⟨.hbm, 147, rfl⟩
abbrev main_while0b_v80 : Ref sig .tc := ⟨.hbm, 148, rfl⟩
abbrev main_while0b_c_27 : Ref sig .tc := ⟨.hbm, 149, rfl⟩
abbrev main_while0b_v81 : Ref sig .tc := ⟨.hbm, 150, rfl⟩
abbrev main_v13 : Ref sig .tc := ⟨.hbm, 151, rfl⟩
abbrev main_v14 : Ref sig .tc := ⟨.hbm, 152, rfl⟩
abbrev main_v15 : Ref sig .tc := ⟨.hbm, 153, rfl⟩

abbrev nD : Nat := 1
abbrev τ : Topo := Topo.v7x

variable {F : FTy → Type} [FloatOps F]

abbrev main_while0_count : Scf.Loop 32 := ⟨0#32, 511#32, 1#32⟩
-- ==== Proof.Chain.lean ====
/-
  What one block of the kernel computes: sixteen steps, each from the state y and the running pre-activation a of the
  first hidden layer.  Stated at any float instance, over the operations the kernel prints.
-/
module

public import proofs.«01_k».proof.Proof.Gen.KernelIdeal.Frame
public import proofs.«01_k».proof.Proof.Gen.KernelIdeal.Skeleton
public import Idealize.ShloMosaic.Lib.Pipeline.Value
public import Idealize.ShloMosaic.Lib.ValueLayout

@[expose] public section

noncomputable section

namespace Cert.Proof

open Cert.KernelIdeal Cert.KernelIdeal.Gen
open Idealize.ShloMosaic Idealize.ShloMosaic.ValueIdx

variable {F : FTy → Type} [FloatOps F]

/-- What the sixteen steps of one block read. -/
structure Blk (F : FTy → Type) where
  /-- the step lengths -/
  hs : FVec F S16x1 .f32
  /-- the diffusion factors, times the root of the step length -/
  sig : FVec F S16x64 .f32
  /-- the first layer's weights -/
  w1y : FVec F S64x128 .bf16
  /-- the second layer's weights and bias -/
  w2 : FVec F S128x64 .bf16
  b2 : FVec F S1x64 .f32
  /-- the second layer's weights turned and scaled by the third layer's -/
  w2t : FVec F S64x128 .bf16
  /-- the first layer's weights turned, and the same times the first layer's weights -/
  w1yt : FVec F S128x64 .bf16
  p : FVec F S128x128 .bf16
  /-- the first layer's part that depends on the time alone -/
  c1 : FVec F S16x128 .f32
  /-- the noise's rows, and the scaled noise through the first layer -/
  noise : ℕ → Vec F S1x1024x64 .f32
  u : ℕ → Vec F S1x1024x128 .f32

theorem slicesHs (j : ℕ) : S16x1.Slices ![j % 16, 0] S1x1 :=
  ⟨rfl, by
    have := Nat.mod_lt j (show 0 < 16 by decide)
    intro a; fin_cases a <;> simp [S16x1, S1x1, Fin.cast] <;> omega⟩

theorem slicesSig (j : ℕ) : S16x64.Slices ![j % 16, 0] S1x64 :=
  ⟨rfl, by
    have := Nat.mod_lt j (show 0 < 16 by decide)
    intro a; fin_cases a <;> simp [S16x64, S1x64, Fin.cast] <;> omega⟩

theorem slicesDc (j : ℕ) : S15x128.Slices ![j % 15, 0] S1x128 :=
  ⟨rfl, by
    have := Nat.mod_lt j (show 0 < 15 by decide)
    intro a; fin_cases a <;> simp [S15x128, S1x128, Fin.cast] <;> omega⟩

theorem inbRow64 (j : ℕ) : ∀ a, (![j % 16, 0, 0] : Fin 3 → ℕ) a + S1x1024x64.size a ≤ S16x1024x64.size a := by
  have := Nat.mod_lt j (show 0 < 16 by decide)
  intro a; fin_cases a <;> simp [S16x1024x64, S1x1024x64] <;> omega

theorem inbRow128 (j : ℕ) : ∀ a, (![j % 16, 0, 0] : Fin 3 → ℕ) a + S1x1024x128.size a ≤ S16x1024x128.size a := by
  have := Nat.mod_lt j (show 0 < 16 by decide)
  intro a; fin_cases a <;> simp [S16x1024x128, S1x1024x128] <;> omega

/-- Row j of the noise's block, and of the block of the scaled noise through the first layer. -/
abbrev row64 (j : ℕ) : Rect S16x1024x64 := Rect.unit (s := S16x1024x64) ![j % 16, 0, 0] S1x1024x64.size (inbRow64 j)
abbrev row128 (j : ℕ) : Rect S16x1024x128 := Rect.unit (s := S16x1024x128) ![j % 16, 0, 0] S1x1024x128.size (inbRow128 j)

/-- The pre-activation the block starts from. -/
def aStart (B : Blk F) (y : FVec F S1024x64 .f32) : FVec F S1024x128 .f32 :=
  addf (matmul dot_S1024x64_S64x128_S1024x128_1_0_0_1_n_n none (truncf .bf16 y bitsLt_bf16_f32) B.w1y (constant S1024x128 .f32 0x00000000#32))
    (broadcastTo S1024x128 (extractStridedSlice S1x128 ![0, 0] B.c1 slices_S16x128_o0_0_S1x128) broadcasts_S1x128_S1024x128)

/-- The second layer, from the pre-activation of the first. -/
def hidden2 (B : Blk F) (a : FVec F S1024x128 .f32) : FVec F S1024x64 .f32 :=
  tanh (addf (matmul dot_S1024x128_S128x64_S1024x64_1_0_0_1_n_n none (truncf .bf16 (tanh a) bitsLt_bf16_f32) B.w2 (constant S1024x64 .f32 0x00000000#32))
    (broadcastTo S1024x64 B.b2 broadcasts_S1x64_S1024x64))

/-- The gradient at the first layer's pre-activation, times step j's length. -/
def gradStep (B : Blk F) (j : ℕ) (a : FVec F S1024x128 .f32) : FVec F S1024x128 .bf16 :=
  truncf .bf16
    (mulf
      (mulf
        (matmul dot_S1024x64_S64x128_S1024x128_1_0_0_1_n_n none
          (truncf .bf16 (subf (broadcast S1024x64 (Scalar.ofBits .f32 0x3F800000#32)) (mulf (hidden2 B a) (hidden2 B a))) bitsLt_bf16_f32)
          B.w2t (constant S1024x128 .f32 0x00000000#32))
        (subf (broadcast S1024x128 (Scalar.ofBits .f32 0x3F800000#32)) (mulf (tanh a) (tanh a))))
      (broadcastTo S1024x128 (extractStridedSlice S1x1 ![j % 16, 0] B.hs (slicesHs j)) broadcasts_S1x1_S1024x128))
    bitsLt_bf16_f32

/-- The state after step j. -/
def yStep (B : Blk F) (j : ℕ) (y : FVec F S1024x64 .f32) (a : FVec F S1024x128 .f32) : FVec F S1024x64 .f32 :=
  addf (subf y (matmul dot_S1024x128_S128x64_S1024x64_1_0_0_1_n_n none (gradStep B j a) B.w1yt (constant S1024x64 .f32 0x00000000#32)))
    (mulf (broadcastTo S1024x64 (extractStridedSlice S1x64 ![j % 16, 0] B.sig (slicesSig j)) broadcasts_S1x64_S1024x64)
      (shapeCast S1024x64 (B.noise j) shapeCasts_S1x1024x64_S1024x64))

/-- How much the time's part of the pre-activation grows from each step of the block to the next. -/
def dC (B : Blk F) : FVec F S15x128 .f32 :=
  subf (extractStridedSlice S15x128 ![1, 0] B.c1 slices_S16x128_o1_0_S15x128)
    (extractStridedSlice S15x128 ![0, 0] B.c1 slices_S16x128_o0_0_S15x128)

/-- The pre-activation after step j. -/
def aStep (B : Blk F) (j : ℕ) (a : FVec F S1024x128 .f32) : FVec F S1024x128 .f32 :=
  addf (subf a (matmul dot_S1024x128_S128x128_S1024x128_1_0_0_1_n_n none (gradStep B j a) B.p (constant S1024x128 .f32 0x00000000#32)))
    (addf (shapeCast S1024x128 (B.u j) shapeCasts_S1x1024x128_S1024x128)
      (broadcastTo S1024x128 (extractStridedSlice S1x128 ![j % 15, 0] (dC B) (slicesDc j)) broadcasts_S1x128_S1024x128))

/-- The state and the pre-activation before step j of the block. -/
def chain (B : Blk F) (y : FVec F S1024x64 .f32) : ℕ → FVec F S1024x64 .f32 × FVec F S1024x128 .f32
  | 0 => (y, aStart B y)
  | j + 1 => (yStep B j (chain B y j).1 (chain B y j).2, aStep B j (chain B y j).2)

/-- The stores of the first n rows of the block's output, the last first. -/
def pieces (B : Blk F) (y : FVec F S1024x64 .f32) : ℕ → List (View.Piece (Elt F) S16x1024x64 .f32)
  | 0 => []
  | j + 1 => ⟨row64 j, shapeCast S1x1024x64 (chain B y j).1 shapeCasts_S1024x64_S1x1024x64⟩ :: pieces B y j

/-- The block's output: row j is the state before step j. -/
def outBlk (B : Blk F) (y : FVec F S1024x64 .f32) : Vec F S16x1024x64 .f32 :=
  fun x => (chain B y (x 0).val).1 (ix2 (x 1) (x 2))

theorem pieces_agree (B : Blk F) (y : FVec F S1024x64 .f32) (n : ℕ) (hn : n ≤ 16) :
    ∀ p ∈ pieces B y n, ∀ x : p.1.shape.Idx, p.2 x = outBlk B y (p.1.emb x) := by
  induction n with
  | zero => intro p hp; simp [pieces] at hp
  | succ j ih =>
    intro p hp
    rcases List.mem_cons.1 hp with rfl | hp
    · intro x
      have h0 : ((row64 j).emb x 0).val = j := by
        have : (x 0).val < 1 := (x 0).isLt
        show j % 16 + 1 * (x 0).val = j
        omega
      have h1 : ((row64 j).emb x 1) = x 1 := Fin.ext (by show 0 + 1 * (x 1).val = _; omega)
      have h2 : ((row64 j).emb x 2) = x 2 := Fin.ext (by show 0 + 1 * (x 2).val = _; omega)
      unfold outBlk
      rw [h0, h1, h2]
      have hx : x = ix3 (x 0) (x 1) (x 2) := eq_ix3 x
      show shapeCast S1x1024x64 (chain B y j).1 shapeCasts_S1024x64_S1x1024x64 x = _
      rw [hx]
      exact shapeCast_ab_1ab_apply _ _ _ _ _
    · exact ih (by omega) p hp

theorem pieces_cover (B : Blk F) (y : FVec F S1024x64 .f32) (n : ℕ) (x : S16x1024x64.Idx) (hx : (x 0).val < n) (hn : n ≤ 16) :
    ∃ p ∈ pieces B y n, x ∈ p.1.set := by
  induction n with
  | zero => omega
  | succ j ih =>
    by_cases h : (x 0).val = j
    · refine ⟨_, List.mem_cons_self, ?_⟩
      refine (Rect.mem_set_unit (inb := inbRow64 j)).2 fun a => ?_
      fin_cases a
      · show j % 16 ≤ (x 0).val ∧ (x 0).val < j % 16 + 1
        omega
      · exact ⟨Nat.zero_le _, by have := (x 1).isLt; show _ < 0 + 1024; simpa using this⟩
      · exact ⟨Nat.zero_le _, by have := (x 2).isLt; show _ < 0 + 64; simpa using this⟩
    · obtain ⟨p, hp, hm⟩ := ih (by omega) (by omega)
      exact ⟨p, List.mem_cons_of_mem _ hp, hm⟩

end Cert.Proof

end
-- ==== Proof.Body.lean ====
/-
  The kernel's body at one grid point, run once: what it leaves in the output's block and in the carried state, from
  what the inputs' blocks hold.  Two cases: the first point, which starts the state from its input, and every later one.
-/
module

public import proofs.«01_k».proof.Proof.Chain
public import Idealize.ShloMosaic.Lib.Pipeline.ReadBack
public import Idealize.ShloMosaic.Lib.Tactic

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ) ℕ

/-- A memref's buffer on core c, and that buffer held whole at given contents. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The printed condition of the first grid point. -/
abbrev IsFirst (i : grid0.Coords) : Prop :=
  Scalar.cmpi .ne (Scalar.extui (Scalar.cmpi .eq (BitVec.ofNat 32 (i 0).val) 0#32) : BitVec 32) 0#32 = 1#1

/-- The block of scaled noise through the first layer, from the input blocks. -/
def uOf (i : grid0.Coords) (X0 : Vec F S16x1024x64 .f32) (X2 : Vec F S64x128 .bf16) (X10 : Vec F S1x32 .f32) (X11 : Vec F S1x32 .f32) (X12 : Vec F S32x64 .f32) (X13 : Vec F S1x64 .f32) (X14 : Vec F S1x1 .f32) (X15 : Vec F S1x1 .f32) : FVec F S16x1024x128 .f32 :=
  k0_pay18 (k0_pay10 (k0_pay6 i) (k0_pay7 X14) (k0_pay8 X15) (k0_pay9 i X10 X11 X12) X13) (k0_pay12 X2) X0

/-- What the steps of a block read, from the input blocks and the rows of the noise and of the scaled noise. -/
def blkWith (i : grid0.Coords) (X2 : Vec F S64x128 .bf16) (X3 : Vec F S1x128 .f32) (X4 : Vec F S1x128 .f32) (X5 : Vec F S128x64 .bf16) (X6 : Vec F S1x64 .f32) (X7 : Vec F S64x128 .bf16) (X8 : Vec F S128x64 .bf16) (X9 : Vec F S128x128 .bf16) (X10 : Vec F S1x32 .f32) (X11 : Vec F S1x32 .f32) (X12 : Vec F S32x64 .f32) (X13 : Vec F S1x64 .f32) (X14 : Vec F S1x1 .f32) (X15 : Vec F S1x1 .f32)
    (noise : ℕ → Vec F S1x1024x64 .f32) (u : ℕ → Vec F S1x1024x128 .f32) : Blk F where
  hs := k0_pay5 i
  sig := k0_pay10 (k0_pay6 i) (k0_pay7 X14) (k0_pay8 X15) (k0_pay9 i X10 X11 X12) X13
  w1y := k0_pay12 X2
  w2 := k0_pay13 X5
  b2 := k0_pay14 X6
  w2t := k0_pay15 X7
  w1yt := k0_pay16 X8
  p := k0_pay17 X9
  c1 := k0_pay11 (k0_pay4 i) X3 X4
  noise := noise
  u := u

/-- What the steps of the block at grid point i read, from the input blocks. -/
def blkOf (i : grid0.Coords) (X0 : Vec F S16x1024x64 .f32) (X2 : Vec F S64x128 .bf16) (X3 : Vec F S1x128 .f32) (X4 : Vec F S1x128 .f32) (X5 : Vec F S128x64 .bf16) (X6 : Vec F S1x64 .f32) (X7 : Vec F S64x128 .bf16) (X8 : Vec F S128x64 .bf16) (X9 : Vec F S128x128 .bf16) (X10 : Vec F S1x32 .f32) (X11 : Vec F S1x32 .f32) (X12 : Vec F S32x64 .f32) (X13 : Vec F S1x64 .f32) (X14 : Vec F S1x1 .f32) (X15 : Vec F S1x1 .f32) : Blk F :=
  blkWith i X2 X3 X4 X5 X6 X7 X8 X9 X10 X11 X12 X13 X14 X15 (fun j x => X0 ((row64 j).emb x))
    (fun j x => uOf i X0 X2 X10 X11 X12 X13 X14 X15 ((row128 j).emb x))

/-- The same with the rows of the second scratch read back from the memref they were stored to. -/
def blkRaw (c : Dev nD) (i : grid0.Coords)
    (M0 : Memref sig .tc .vmem S16x1024x64 .f32) (h0 : M0.IsWhole) (f0 : Bf (F := F) c M0)
    (M1 : Memref sig .tc .vmem S1024x64 .f32) (h1 : M1.IsWhole) (f1 : Bf (F := F) c M1)
    (M2 : Memref sig .tc .vmem S64x128 .bf16) (h2 : M2.IsWhole) (f2 : Bf (F := F) c M2)
    (M3 : Memref sig .tc .vmem S1x128 .f32) (h3 : M3.IsWhole) (f3 : Bf (F := F) c M3)
    (M4 : Memref sig .tc .vmem S1x128 .f32) (h4 : M4.IsWhole) (f4 : Bf (F := F) c M4)
    (M5 : Memref sig .tc .vmem S128x64 .bf16) (h5 : M5.IsWhole) (f5 : Bf (F := F) c M5)
    (M6 : Memref sig .tc .vmem S1x64 .f32) (h6 : M6.IsWhole) (f6 : Bf (F := F) c M6)
    (M7 : Memref sig .tc .vmem S64x128 .bf16) (h7 : M7.IsWhole) (f7 : Bf (F := F) c M7)
    (M8 : Memref sig .tc .vmem S128x64 .bf16) (h8 : M8.IsWhole) (f8 : Bf (F := F) c M8)
    (M9 : Memref sig .tc .vmem S128x128 .bf16) (h9 : M9.IsWhole) (f9 : Bf (F := F) c M9)
    (M10 : Memref sig .tc .vmem S1x32 .f32) (h10 : M10.IsWhole) (f10 : Bf (F := F) c M10)
    (M11 : Memref sig .tc .vmem S1x32 .f32) (h11 : M11.IsWhole) (f11 : Bf (F := F) c M11)
    (M12 : Memref sig .tc .vmem S32x64 .f32) (h12 : M12.IsWhole) (f12 : Bf (F := F) c M12)
    (M13 : Memref sig .tc .vmem S1x64 .f32) (h13 : M13.IsWhole) (f13 : Bf (F := F) c M13)
    (M14 : Memref sig .tc .vmem S1x1 .f32) (h14 : M14.IsWhole) (f14 : Bf (F := F) c M14)
    (M15 : Memref sig .tc .vmem S1x1 .f32) (h15 : M15.IsWhole) (f15 : Bf (F := F) c M15)
    (M16 : Memref sig .tc .vmem S16x1024x64 .f32) (h16 : M16.IsWhole) (f16 : Bf (F := F) c M16)
    (M17 : Memref sig .tc .vmem S1024x64 .f32) (h17 : M17.IsWhole) (f17 : Bf (F := F) c M17)
    (M18 : Memref sig .tc .vmem S16x1024x128 .f32) (h18 : M18.IsWhole) (f18 : Bf (F := F) c M18) : Blk F :=
  blkWith i     (View.readAt (Elt F) M2.view (Rect.unit (s := S64x128) ![0, 0] S64x128.size inb_S64x128_S64x128_0_0).toLoadRect f2)
    (View.readAt (Elt F) M3.view (Rect.unit (s := S1x128) ![0, 0] S1x128.size inb_S1x128_S1x128_0_0).toLoadRect f3)
    (View.readAt (Elt F) M4.view (Rect.unit (s := S1x128) ![0, 0] S1x128.size inb_S1x128_S1x128_0_0).toLoadRect f4)
    (View.readAt (Elt F) M5.view (Rect.unit (s := S128x64) ![0, 0] S128x64.size inb_S128x64_S128x64_0_0).toLoadRect f5)
    (View.readAt (Elt F) M6.view (Rect.unit (s := S1x64) ![0, 0] S1x64.size inb_S1x64_S1x64_0_0).toLoadRect f6)
    (View.readAt (Elt F) M7.view (Rect.unit (s := S64x128) ![0, 0] S64x128.size inb_S64x128_S64x128_0_0).toLoadRect f7)
    (View.readAt (Elt F) M8.view (Rect.unit (s := S128x64) ![0, 0] S128x64.size inb_S128x64_S128x64_0_0).toLoadRect f8)
    (View.readAt (Elt F) M9.view (Rect.unit (s := S128x128) ![0, 0] S128x128.size inb_S128x128_S128x128_0_0).toLoadRect f9)
    (View.readAt (Elt F) M10.view (Rect.unit (s := S1x32) ![0, 0] S1x32.size inb_S1x32_S1x32_0_0).toLoadRect f10)
    (View.readAt (Elt F) M11.view (Rect.unit (s := S1x32) ![0, 0] S1x32.size inb_S1x32_S1x32_0_0).toLoadRect f11)
    (View.readAt (Elt F) M12.view (Rect.unit (s := S32x64) ![0, 0] S32x64.size inb_S32x64_S32x64_0_0).toLoadRect f12)
    (View.readAt (Elt F) M13.view (Rect.unit (s := S1x64) ![0, 0] S1x64.size inb_S1x64_S1x64_0_0).toLoadRect f13)
    (View.readAt (Elt F) M14.view (Rect.unit (s := S1x1) ![0, 0] S1x1.size inb_S1x1_S1x1_0_0).toLoadRect f14)
    (View.readAt (Elt F) M15.view (Rect.unit (s := S1x1) ![0, 0] S1x1.size inb_S1x1_S1x1_0_0).toLoadRect f15)
    (fun j => View.readAt (Elt F) M0.view (row64 j).toLoadRect f0)
    (fun j => View.readCov (Val := Elt F) M18.view
      [⟨Rect.unit (s := S16x1024x128) ![0, 0, 0] S16x1024x128.size inb_S16x1024x128_S16x1024x128_0_0_0,
        uOf i (View.readAt (Elt F) M0.view (Rect.unit (s := S16x1024x64) ![0, 0, 0] S16x1024x64.size inb_S16x1024x64_S16x1024x64_0_0_0).toLoadRect f0) (View.readAt (Elt F) M2.view (Rect.unit (s := S64x128) ![0, 0] S64x128.size inb_S64x128_S64x128_0_0).toLoadRect f2) (View.readAt (Elt F) M10.view (Rect.unit (s := S1x32) ![0, 0] S1x32.size inb_S1x32_S1x32_0_0).toLoadRect f10) (View.readAt (Elt F) M11.view (Rect.unit (s := S1x32) ![0, 0] S1x32.size inb_S1x32_S1x32_0_0).toLoadRect f11) (View.readAt (Elt F) M12.view (Rect.unit (s := S32x64) ![0, 0] S32x64.size inb_S32x64_S32x64_0_0).toLoadRect f12) (View.readAt (Elt F) M13.view (Rect.unit (s := S1x64) ![0, 0] S1x64.size inb_S1x64_S1x64_0_0).toLoadRect f13) (View.readAt (Elt F) M14.view (Rect.unit (s := S1x1) ![0, 0] S1x1.size inb_S1x1_S1x1_0_0).toLoadRect f14) (View.readAt (Elt F) M15.view (Rect.unit (s := S1x1) ![0, 0] S1x1.size inb_S1x1_S1x1_0_0).toLoadRect f15)⟩] (row128 j).toLoadRect)

theorem uOf_congr (i : grid0.Coords) (X0 : Vec F S16x1024x64 .f32) (X2 : Vec F S64x128 .bf16) (X10 : Vec F S1x32 .f32) (X11 : Vec F S1x32 .f32) (X12 : Vec F S32x64 .f32) (X13 : Vec F S1x64 .f32) (X14 : Vec F S1x1 .f32) (X15 : Vec F S1x1 .f32) (Y0 : Vec F S16x1024x64 .f32) (Y2 : Vec F S64x128 .bf16) (Y10 : Vec F S1x32 .f32) (Y11 : Vec F S1x32 .f32) (Y12 : Vec F S32x64 .f32) (Y13 : Vec F S1x64 .f32) (Y14 : Vec F S1x1 .f32) (Y15 : Vec F S1x1 .f32)
    (e0 : X0 = Y0) (e2 : X2 = Y2) (e10 : X10 = Y10) (e11 : X11 = Y11) (e12 : X12 = Y12) (e13 : X13 = Y13) (e14 : X14 = Y14) (e15 : X15 = Y15) : uOf i X0 X2 X10 X11 X12 X13 X14 X15 = uOf i Y0 Y2 Y10 Y11 Y12 Y13 Y14 Y15 := by
  subst e0 e2 e10 e11 e12 e13 e14 e15; rfl

theorem blkWith_congr (i : grid0.Coords) (X2 : Vec F S64x128 .bf16) (X3 : Vec F S1x128 .f32) (X4 : Vec F S1x128 .f32) (X5 : Vec F S128x64 .bf16) (X6 : Vec F S1x64 .f32) (X7 : Vec F S64x128 .bf16) (X8 : Vec F S128x64 .bf16) (X9 : Vec F S128x128 .bf16) (X10 : Vec F S1x32 .f32) (X11 : Vec F S1x32 .f32) (X12 : Vec F S32x64 .f32) (X13 : Vec F S1x64 .f32) (X14 : Vec F S1x1 .f32) (X15 : Vec F S1x1 .f32) (Y2 : Vec F S64x128 .bf16) (Y3 : Vec F S1x128 .f32) (Y4 : Vec F S1x128 .f32) (Y5 : Vec F S128x64 .bf16) (Y6 : Vec F S1x64 .f32) (Y7 : Vec F S64x128 .bf16) (Y8 : Vec F S128x64 .bf16) (Y9 : Vec F S128x128 .bf16) (Y10 : Vec F S1x32 .f32) (Y11 : Vec F S1x32 .f32) (Y12 : Vec F S32x64 .f32) (Y13 : Vec F S1x64 .f32) (Y14 : Vec F S1x1 .f32) (Y15 : Vec F S1x1 .f32)
    (noise noise' : ℕ → Vec F S1x1024x64 .f32) (u u' : ℕ → Vec F S1x1024x128 .f32)
    (e2 : X2 = Y2) (e3 : X3 = Y3) (e4 : X4 = Y4) (e5 : X5 = Y5) (e6 : X6 = Y6) (e7 : X7 = Y7) (e8 : X8 = Y8) (e9 : X9 = Y9) (e10 : X10 = Y10) (e11 : X11 = Y11) (e12 : X12 = Y12) (e13 : X13 = Y13) (e14 : X14 = Y14) (e15 : X15 = Y15) (en : noise = noise') (eu : u = u') :
    blkWith i X2 X3 X4 X5 X6 X7 X8 X9 X10 X11 X12 X13 X14 X15 noise u = blkWith i Y2 Y3 Y4 Y5 Y6 Y7 Y8 Y9 Y10 Y11 Y12 Y13 Y14 Y15 noise' u' := by
  subst e2 e3 e4 e5 e6 e7 e8 e9 e10 e11 e12 e13 e14 e15 en eu; rfl

/-- A load of a whole buffer reads all of it. -/
theorem readAt_all {sp : Space} {s : Shape} {e : EltTy} (v : View sig .tc sp s e) (off : Fin s.rank → ℕ) (inb : ∀ a, off a + s.size a ≤ s.size a)
    (f : v.ty.Contents (Elt F)) : v.readAt (Elt F) (Rect.unit (s := s) off s.size inb).toLoadRect f = v.read (Elt F) f := by
  funext x
  refine congrArg (v.read (Elt F) f) (funext fun a => Fin.ext ?_)
  have := inb a
  show off a + 1 * (x a).val = (x a).val
  omega

/-- A load of a whole buffer after one store of the whole of it reads what was stored. -/
theorem readCov_one {sp : Space} {s : Shape} {e : EltTy} (v : View sig .tc sp s e) (off : Fin s.rank → ℕ) (inb : ∀ a, off a + s.size a ≤ s.size a)
    (Z : s.Idx → Elt F e) (h : ∀ a, off a = 0) :
    v.readCov (Val := Elt F) [⟨Rect.unit (s := s) off s.size inb, Z⟩] (Rect.unit (s := s) off s.size inb).toLoadRect = Z := by
  rw [View.readCov_fill v inb Z [] _ h]
  funext x
  refine congrArg Z (funext fun a => Fin.ext ?_)
  have := h a
  show off a + 1 * (x a).val = (x a).val
  omega

/-- What a whole buffer holds after one store of the whole of it. -/
theorem readCov_all {sp : Space} {s : Shape} {e : EltTy} (v : View sig .tc sp s e) (off : Fin s.rank → ℕ) (inb : ∀ a, off a + s.size a ≤ s.size a)
    (Z : s.Idx → Elt F e) (L : List (View.Piece (Elt F) s e)) :
    v.read (Elt F) (v.writes (Elt F) v.junk (⟨Rect.unit (s := s) off s.size inb, Z⟩ :: L)) = Z := by
  funext x
  have hx : x = (Rect.unit (s := s) off s.size inb).emb x := by
    funext a
    refine Fin.ext ?_
    have := inb a
    show (x a).val = off a + 1 * (x a).val
    omega
  conv_lhs => rw [hx]
  exact View.read_writes_cons_emb _ _ _ _ _ _

theorem blkRaw_eq (c : Dev nD) (i : grid0.Coords)
    (M0 : Memref sig .tc .vmem S16x1024x64 .f32) (h0 : M0.IsWhole) (f0 : Bf (F := F) c M0)
    (M1 : Memref sig .tc .vmem S1024x64 .f32) (h1 : M1.IsWhole) (f1 : Bf (F := F) c M1)
    (M2 : Memref sig .tc .vmem S64x128 .bf16) (h2 : M2.IsWhole) (f2 : Bf (F := F) c M2)
    (M3 : Memref sig .tc .vmem S1x128 .f32) (h3 : M3.IsWhole) (f3 : Bf (F := F) c M3)
    (M4 : Memref sig .tc .vmem S1x128 .f32) (h4 : M4.IsWhole) (f4 : Bf (F := F) c M4)
    (M5 : Memref sig .tc .vmem S128x64 .bf16) (h5 : M5.IsWhole) (f5 : Bf (F := F) c M5)
    (M6 : Memref sig .tc .vmem S1x64 .f32) (h6 : M6.IsWhole) (f6 : Bf (F := F) c M6)
    (M7 : Memref sig .tc .vmem S64x128 .bf16) (h7 : M7.IsWhole) (f7 : Bf (F := F) c M7)
    (M8 : Memref sig .tc .vmem S128x64 .bf16) (h8 : M8.IsWhole) (f8 : Bf (F := F) c M8)
    (M9 : Memref sig .tc .vmem S128x128 .bf16) (h9 : M9.IsWhole) (f9 : Bf (F := F) c M9)
    (M10 : Memref sig .tc .vmem S1x32 .f32) (h10 : M10.IsWhole) (f10 : Bf (F := F) c M10)
    (M11 : Memref sig .tc .vmem S1x32 .f32) (h11 : M11.IsWhole) (f11 : Bf (F := F) c M11)
    (M12 : Memref sig .tc .vmem S32x64 .f32) (h12 : M12.IsWhole) (f12 : Bf (F := F) c M12)
    (M13 : Memref sig .tc .vmem S1x64 .f32) (h13 : M13.IsWhole) (f13 : Bf (F := F) c M13)
    (M14 : Memref sig .tc .vmem S1x1 .f32) (h14 : M14.IsWhole) (f14 : Bf (F := F) c M14)
    (M15 : Memref sig .tc .vmem S1x1 .f32) (h15 : M15.IsWhole) (f15 : Bf (F := F) c M15)
    (M16 : Memref sig .tc .vmem S16x1024x64 .f32) (h16 : M16.IsWhole) (f16 : Bf (F := F) c M16)
    (M17 : Memref sig .tc .vmem S1024x64 .f32) (h17 : M17.IsWhole) (f17 : Bf (F := F) c M17)
    (M18 : Memref sig .tc .vmem S16x1024x128 .f32) (h18 : M18.IsWhole) (f18 : Bf (F := F) c M18) :
    blkRaw c i M0 h0 f0 M1 h1 f1 M2 h2 f2 M3 h3 f3 M4 h4 f4 M5 h5 f5 M6 h6 f6 M7 h7 f7 M8 h8 f8 M9 h9 f9 M10 h10 f10 M11 h11 f11 M12 h12 f12 M13 h13 f13 M14 h14 f14 M15 h15 f15 M16 h16 f16 M17 h17 f17 M18 h18 f18 = blkOf i (M0.view.read (Elt F) f0) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M10.view.read (Elt F) f10) (M11.view.read (Elt F) f11) (M12.view.read (Elt F) f12) (M13.view.read (Elt F) f13) (M14.view.read (Elt F) f14) (M15.view.read (Elt F) f15) := by
  unfold blkRaw blkOf
  refine blkWith_congr i _ _ _ _ _ _ _ _ _ _ _ _ _ _ _ _ _ _ _ _ _ _ _ _ _ _ _ _ _ _ _ _ (readAt_all _ _ _ _) (readAt_all _ _ _ _) (readAt_all _ _ _ _) (readAt_all _ _ _ _) (readAt_all _ _ _ _) (readAt_all _ _ _ _) (readAt_all _ _ _ _) (readAt_all _ _ _ _) (readAt_all _ _ _ _) (readAt_all _ _ _ _) (readAt_all _ _ _ _) (readAt_all _ _ _ _) (readAt_all _ _ _ _) (readAt_all _ _ _ _) rfl ?_
  funext j
  refine (View.readCov_fill M18.view (off := ![0, 0, 0]) inb_S16x1024x128_S16x1024x128_0_0_0 _ [] (row128 j) (by intro a; fin_cases a <;> rfl)).trans ?_
  funext x
  exact congrFun (uOf_congr i _ _ _ _ _ _ _ _ _ _ _ _ _ _ _ _ (readAt_all _ _ _ _) (readAt_all _ _ _ _) (readAt_all _ _ _ _) (readAt_all _ _ _ _) (readAt_all _ _ _ _) (readAt_all _ _ _ _) (readAt_all _ _ _ _) (readAt_all _ _ _ _)) _

/-- The body at the first grid point. -/
theorem runFirst (c : Dev nD) (i : grid0.Coords) (hc : IsFirst i)
    (M0 : Memref sig .tc .vmem S16x1024x64 .f32) (h0 : M0.IsWhole) (f0 : Bf (F := F) c M0)
    (M1 : Memref sig .tc .vmem S1024x64 .f32) (h1 : M1.IsWhole) (f1 : Bf (F := F) c M1)
    (M2 : Memref sig .tc .vmem S64x128 .bf16) (h2 : M2.IsWhole) (f2 : Bf (F := F) c M2)
    (M3 : Memref sig .tc .vmem S1x128 .f32) (h3 : M3.IsWhole) (f3 : Bf (F := F) c M3)
    (M4 : Memref sig .tc .vmem S1x128 .f32) (h4 : M4.IsWhole) (f4 : Bf (F := F) c M4)
    (M5 : Memref sig .tc .vmem S128x64 .bf16) (h5 : M5.IsWhole) (f5 : Bf (F := F) c M5)
    (M6 : Memref sig .tc .vmem S1x64 .f32) (h6 : M6.IsWhole) (f6 : Bf (F := F) c M6)
    (M7 : Memref sig .tc .vmem S64x128 .bf16) (h7 : M7.IsWhole) (f7 : Bf (F := F) c M7)
    (M8 : Memref sig .tc .vmem S128x64 .bf16) (h8 : M8.IsWhole) (f8 : Bf (F := F) c M8)
    (M9 : Memref sig .tc .vmem S128x128 .bf16) (h9 : M9.IsWhole) (f9 : Bf (F := F) c M9)
    (M10 : Memref sig .tc .vmem S1x32 .f32) (h10 : M10.IsWhole) (f10 : Bf (F := F) c M10)
    (M11 : Memref sig .tc .vmem S1x32 .f32) (h11 : M11.IsWhole) (f11 : Bf (F := F) c M11)
    (M12 : Memref sig .tc .vmem S32x64 .f32) (h12 : M12.IsWhole) (f12 : Bf (F := F) c M12)
    (M13 : Memref sig .tc .vmem S1x64 .f32) (h13 : M13.IsWhole) (f13 : Bf (F := F) c M13)
    (M14 : Memref sig .tc .vmem S1x1 .f32) (h14 : M14.IsWhole) (f14 : Bf (F := F) c M14)
    (M15 : Memref sig .tc .vmem S1x1 .f32) (h15 : M15.IsWhole) (f15 : Bf (F := F) c M15)
    (M16 : Memref sig .tc .vmem S16x1024x64 .f32) (h16 : M16.IsWhole) (f16 : Bf (F := F) c M16)
    (M17 : Memref sig .tc .vmem S1024x64 .f32) (h17 : M17.IsWhole) (f17 : Bf (F := F) c M17)
    (M18 : Memref sig .tc .vmem S16x1024x128 .f32) (h18 : M18.IsWhole) (f18 : Bf (F := F) c M18)
    (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18
        ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
            ∗ (∃ g, ⌜M16.view.read (Elt F) g = outBlk (blkOf i (M0.view.read (Elt F) f0) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M10.view.read (Elt F) f10) (M11.view.read (Elt F) f11) (M12.view.read (Elt F) f12) (M13.view.read (Elt F) f13) (M14.view.read (Elt F) f14) (M15.view.read (Elt F) f15)) (k0_pay2 (M1.view.read (Elt F) f1))⌝ ∗ pt c M16 g)
            ∗ (∃ g, ⌜M17.view.read (Elt F) g = (chain (blkOf i (M0.view.read (Elt F) f0) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M10.view.read (Elt F) f10) (M11.view.read (Elt F) f11) (M12.view.read (Elt F) f12) (M13.view.read (Elt F) f13) (M14.view.read (Elt F) f14) (M15.view.read (Elt F) f15)) (k0_pay2 (M1.view.read (Elt F) f1)) 16).1⌝ ∗ pt c M17 g)
            ∗ (∃ g, pt c M18 g)) -∗ Q ⟨⟩))
      ⊢ wp frame (wpE (defs₀ (F := F)) Variants.none c none) Set.univ
          (cc0_langevin_sde i M0 h0 M1 h1 M2 h2 M3 h3 M4 h4 M5 h5 M6 h6 M7 h7 M8 h8 M9 h9 M10 h10 M11 h11 M12 h12 M13 h13 M14 h14 M15 h15 M16 h16 M17 h17 M18 h18) Q := by
  iintro ⟨H0, H1, H2, H3, H4, H5, H6, H7, H8, H9, H10, H11, H12, H13, H14, H15, H16, H17, H18, Hk⟩
  sl_exec_parts! (disch := exact hc)
  sl_step
  iapply Hk
  iframe
  have e : blkRaw c i M0 h0 f0 M1 h1 f1 M2 h2 f2 M3 h3 f3 M4 h4 f4 M5 h5 f5 M6 h6 f6 M7 h7 f7 M8 h8 f8 M9 h9 f9 M10 h10 f10 M11 h11 f11 M12 h12 f12 M13 h13 f13 M14 h14 f14 M15 h15 f15 M16 h16 f16 M17 h17 f17 M18 h18 f18 = blkOf i (M0.view.read (Elt F) f0) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M10.view.read (Elt F) f10) (M11.view.read (Elt F) f11) (M12.view.read (Elt F) f12) (M13.view.read (Elt F) f13) (M14.view.read (Elt F) f14) (M15.view.read (Elt F) f15) := blkRaw_eq c i M0 h0 f0 M1 h1 f1 M2 h2 f2 M3 h3 f3 M4 h4 f4 M5 h5 f5 M6 h6 f6 M7 h7 f7 M8 h8 f8 M9 h9 f9 M10 h10 f10 M11 h11 f11 M12 h12 f12 M13 h13 f13 M14 h14 f14 M15 h15 f15 M16 h16 f16 M17 h17 f17 M18 h18 f18
  have ey : (View.readCov (Val := Elt F) M17.view [⟨Rect.unit (s := S1024x64) ![0, 0] S1024x64.size inb_S1024x64_S1024x64_0_0, k0_pay2 (View.readAt (Elt F) M1.view (Rect.unit (s := S1024x64) ![0, 0] S1024x64.size inb_S1024x64_S1024x64_0_0).toLoadRect f1)⟩] (Rect.unit (s := S1024x64) ![0, 0] S1024x64.size inb_S1024x64_S1024x64_0_0).toLoadRect) = (k0_pay2 (M1.view.read (Elt F) f1)) := by
    rw [readAt_all]; exact readCov_one M17.view ![0, 0] inb_S1024x64_S1024x64_0_0 _ (by intro a; fin_cases a <;> rfl)
  isplitl [H16]
  · iexists _
    isplitr; swap; · iexact H16
    ipureintro
    rw [← e, ← ey]
    refine (congrArg (fun L => M16.view.read (Elt F) (M16.view.writes (Elt F) M16.view.junk L)) (?_ : _ = pieces (blkRaw c i M0 h0 f0 M1 h1 f1 M2 h2 f2 M3 h3 f3 M4 h4 f4 M5 h5 f5 M6 h6 f6 M7 h7 f7 M8 h8 f8 M9 h9 f9 M10 h10 f10 M11 h11 f11 M12 h12 f12 M13 h13 f13 M14 h14 f14 M15 h15 f15 M16 h16 f16 M17 h17 f17 M18 h18 f18) (View.readCov (Val := Elt F) M17.view [⟨Rect.unit (s := S1024x64) ![0, 0] S1024x64.size inb_S1024x64_S1024x64_0_0, k0_pay2 (View.readAt (Elt F) M1.view (Rect.unit (s := S1024x64) ![0, 0] S1024x64.size inb_S1024x64_S1024x64_0_0).toLoadRect f1)⟩] (Rect.unit (s := S1024x64) ![0, 0] S1024x64.size inb_S1024x64_S1024x64_0_0).toLoadRect) 16)).trans ?_
    · sl_kernel_rfl
    · funext x
      exact View.read_writes_apply_of_pieces _ _ _ _ (pieces_agree _ _ 16 le_rfl) x (pieces_cover _ _ 16 x (x 0).isLt le_rfl)
  isplitl [H17]
  · iexists _
    isplitr; swap; · iexact H17
    ipureintro
    rw [← e, ← ey]
    refine (congrArg (fun L => M17.view.read (Elt F) (M17.view.writes (Elt F) M17.view.junk L)) (?_ : _ =
      ([⟨Rect.unit (s := S1024x64) ![0, 0] S1024x64.size inb_S1024x64_S1024x64_0_0, shapeCast S1024x64 (chain (blkRaw c i M0 h0 f0 M1 h1 f1 M2 h2 f2 M3 h3 f3 M4 h4 f4 M5 h5 f5 M6 h6 f6 M7 h7 f7 M8 h8 f8 M9 h9 f9 M10 h10 f10 M11 h11 f11 M12 h12 f12 M13 h13 f13 M14 h14 f14 M15 h15 f15 M16 h16 f16 M17 h17 f17 M18 h18 f18) (View.readCov (Val := Elt F) M17.view [⟨Rect.unit (s := S1024x64) ![0, 0] S1024x64.size inb_S1024x64_S1024x64_0_0, k0_pay2 (View.readAt (Elt F) M1.view (Rect.unit (s := S1024x64) ![0, 0] S1024x64.size inb_S1024x64_S1024x64_0_0).toLoadRect f1)⟩] (Rect.unit (s := S1024x64) ![0, 0] S1024x64.size inb_S1024x64_S1024x64_0_0).toLoadRect) 16).1 shapeCasts_S1024x64_S1024x64⟩, ⟨Rect.unit (s := S1024x64) ![0, 0] S1024x64.size inb_S1024x64_S1024x64_0_0, k0_pay2 (View.readAt (Elt F) M1.view (Rect.unit (s := S1024x64) ![0, 0] S1024x64.size inb_S1024x64_S1024x64_0_0).toLoadRect f1)⟩] : List (View.Piece (Elt F) S1024x64 .f32)))).trans ?_
    · sl_kernel_rfl
    · exact (readCov_all M17.view _ _ _ _).trans (shapeCast_self _ _)
  · iexists _
    iexact H18

/-- The body at a later grid point. -/
theorem runLater (c : Dev nD) (i : grid0.Coords) (hc : ¬ IsFirst i)
    (M0 : Memref sig .tc .vmem S16x1024x64 .f32) (h0 : M0.IsWhole) (f0 : Bf (F := F) c M0)
    (M1 : Memref sig .tc .vmem S1024x64 .f32) (h1 : M1.IsWhole) (f1 : Bf (F := F) c M1)
    (M2 : Memref sig .tc .vmem S64x128 .bf16) (h2 : M2.IsWhole) (f2 : Bf (F := F) c M2)
    (M3 : Memref sig .tc .vmem S1x128 .f32) (h3 : M3.IsWhole) (f3 : Bf (F := F) c M3)
    (M4 : Memref sig .tc .vmem S1x128 .f32) (h4 : M4.IsWhole) (f4 : Bf (F := F) c M4)
    (M5 : Memref sig .tc .vmem S128x64 .bf16) (h5 : M5.IsWhole) (f5 : Bf (F := F) c M5)
    (M6 : Memref sig .tc .vmem S1x64 .f32) (h6 : M6.IsWhole) (f6 : Bf (F := F) c M6)
    (M7 : Memref sig .tc .vmem S64x128 .bf16) (h7 : M7.IsWhole) (f7 : Bf (F := F) c M7)
    (M8 : Memref sig .tc .vmem S128x64 .bf16) (h8 : M8.IsWhole) (f8 : Bf (F := F) c M8)
    (M9 : Memref sig .tc .vmem S128x128 .bf16) (h9 : M9.IsWhole) (f9 : Bf (F := F) c M9)
    (M10 : Memref sig .tc .vmem S1x32 .f32) (h10 : M10.IsWhole) (f10 : Bf (F := F) c M10)
    (M11 : Memref sig .tc .vmem S1x32 .f32) (h11 : M11.IsWhole) (f11 : Bf (F := F) c M11)
    (M12 : Memref sig .tc .vmem S32x64 .f32) (h12 : M12.IsWhole) (f12 : Bf (F := F) c M12)
    (M13 : Memref sig .tc .vmem S1x64 .f32) (h13 : M13.IsWhole) (f13 : Bf (F := F) c M13)
    (M14 : Memref sig .tc .vmem S1x1 .f32) (h14 : M14.IsWhole) (f14 : Bf (F := F) c M14)
    (M15 : Memref sig .tc .vmem S1x1 .f32) (h15 : M15.IsWhole) (f15 : Bf (F := F) c M15)
    (M16 : Memref sig .tc .vmem S16x1024x64 .f32) (h16 : M16.IsWhole) (f16 : Bf (F := F) c M16)
    (M17 : Memref sig .tc .vmem S1024x64 .f32) (h17 : M17.IsWhole) (f17 : Bf (F := F) c M17)
    (M18 : Memref sig .tc .vmem S16x1024x128 .f32) (h18 : M18.IsWhole) (f18 : Bf (F := F) c M18)
    (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18
        ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
            ∗ (∃ g, ⌜M16.view.read (Elt F) g = outBlk (blkOf i (M0.view.read (Elt F) f0) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M10.view.read (Elt F) f10) (M11.view.read (Elt F) f11) (M12.view.read (Elt F) f12) (M13.view.read (Elt F) f13) (M14.view.read (Elt F) f14) (M15.view.read (Elt F) f15)) (M17.view.read (Elt F) f17)⌝ ∗ pt c M16 g)
            ∗ (∃ g, ⌜M17.view.read (Elt F) g = (chain (blkOf i (M0.view.read (Elt F) f0) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M10.view.read (Elt F) f10) (M11.view.read (Elt F) f11) (M12.view.read (Elt F) f12) (M13.view.read (Elt F) f13) (M14.view.read (Elt F) f14) (M15.view.read (Elt F) f15)) (M17.view.read (Elt F) f17) 16).1⌝ ∗ pt c M17 g)
            ∗ (∃ g, pt c M18 g)) -∗ Q ⟨⟩))
      ⊢ wp frame (wpE (defs₀ (F := F)) Variants.none c none) Set.univ
          (cc0_langevin_sde i M0 h0 M1 h1 M2 h2 M3 h3 M4 h4 M5 h5 M6 h6 M7 h7 M8 h8 M9 h9 M10 h10 M11 h11 M12 h12 M13 h13 M14 h14 M15 h15 M16 h16 M17 h17 M18 h18) Q := by
  iintro ⟨H0, H1, H2, H3, H4, H5, H6, H7, H8, H9, H10, H11, H12, H13, H14, H15, H16, H17, H18, Hk⟩
  sl_exec_parts! (disch := exact hc)
  sl_step
  iapply Hk
  iframe
  have e : blkRaw c i M0 h0 f0 M1 h1 f1 M2 h2 f2 M3 h3 f3 M4 h4 f4 M5 h5 f5 M6 h6 f6 M7 h7 f7 M8 h8 f8 M9 h9 f9 M10 h10 f10 M11 h11 f11 M12 h12 f12 M13 h13 f13 M14 h14 f14 M15 h15 f15 M16 h16 f16 M17 h17 f17 M18 h18 f18 = blkOf i (M0.view.read (Elt F) f0) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M10.view.read (Elt F) f10) (M11.view.read (Elt F) f11) (M12.view.read (Elt F) f12) (M13.view.read (Elt F) f13) (M14.view.read (Elt F) f14) (M15.view.read (Elt F) f15) := blkRaw_eq c i M0 h0 f0 M1 h1 f1 M2 h2 f2 M3 h3 f3 M4 h4 f4 M5 h5 f5 M6 h6 f6 M7 h7 f7 M8 h8 f8 M9 h9 f9 M10 h10 f10 M11 h11 f11 M12 h12 f12 M13 h13 f13 M14 h14 f14 M15 h15 f15 M16 h16 f16 M17 h17 f17 M18 h18 f18
  have ey : (View.readAt (Elt F) M17.view (Rect.unit (s := S1024x64) ![0, 0] S1024x64.size inb_S1024x64_S1024x64_0_0).toLoadRect f17) = (M17.view.read (Elt F) f17) := by
    exact readAt_all _ _ _ _
  isplitl [H16]
  · iexists _
    isplitr; swap; · iexact H16
    ipureintro
    rw [← e, ← ey]
    refine (congrArg (fun L => M16.view.read (Elt F) (M16.view.writes (Elt F) M16.view.junk L)) (?_ : _ = pieces (blkRaw c i M0 h0 f0 M1 h1 f1 M2 h2 f2 M3 h3 f3 M4 h4 f4 M5 h5 f5 M6 h6 f6 M7 h7 f7 M8 h8 f8 M9 h9 f9 M10 h10 f10 M11 h11 f11 M12 h12 f12 M13 h13 f13 M14 h14 f14 M15 h15 f15 M16 h16 f16 M17 h17 f17 M18 h18 f18) (View.readAt (Elt F) M17.view (Rect.unit (s := S1024x64) ![0, 0] S1024x64.size inb_S1024x64_S1024x64_0_0).toLoadRect f17) 16)).trans ?_
    · sl_kernel_rfl
    · funext x
      exact View.read_writes_apply_of_pieces _ _ _ _ (pieces_agree _ _ 16 le_rfl) x (pieces_cover _ _ 16 x (x 0).isLt le_rfl)
  isplitl [H17]
  · iexists _
    isplitr; swap; · iexact H17
    ipureintro
    rw [← e, ← ey]
    refine (congrArg (fun L => M17.view.read (Elt F) (M17.view.writes (Elt F) M17.view.junk L)) (?_ : _ =
      ([⟨Rect.unit (s := S1024x64) ![0, 0] S1024x64.size inb_S1024x64_S1024x64_0_0, shapeCast S1024x64 (chain (blkRaw c i M0 h0 f0 M1 h1 f1 M2 h2 f2 M3 h3 f3 M4 h4 f4 M5 h5 f5 M6 h6 f6 M7 h7 f7 M8 h8 f8 M9 h9 f9 M10 h10 f10 M11 h11 f11 M12 h12 f12 M13 h13 f13 M14 h14 f14 M15 h15 f15 M16 h16 f16 M17 h17 f17 M18 h18 f18) (View.readAt (Elt F) M17.view (Rect.unit (s := S1024x64) ![0, 0] S1024x64.size inb_S1024x64_S1024x64_0_0).toLoadRect f17) 16).1 shapeCasts_S1024x64_S1024x64⟩] : List (View.Piece (Elt F) S1024x64 .f32)))).trans ?_
    · sl_kernel_rfl
    · exact (readCov_all M17.view _ _ _ _).trans (shapeCast_self _ _)
  · iexists _
    iexact H18

end Cert.Proof

end
-- ==== Proof.FrameRun.lean ====
/-
  The kernel runs to its end, its arguments as they were and every semaphore counter at zero, at any float instance.
  What the kernel leaves in its output is not followed here.
-/
module

public import proofs.«01_k».proof.Proof.Body
public import Idealize.ShloMosaic.Lib.Pipeline.FrameSuffix
public import Idealize.ShloMosaic.Lib.Pipeline.FrameBody
public import Idealize.ShloMosaic.Adequacy
public import Idealize.ShloMosaic.Init

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The two scratch buffers, whole. -/
abbrev yScr : Memref sig .tc .vmem S1024x64 .f32 := Memref.whole cc0_scratch0
abbrev uScr : Memref sig .tc .vmem S16x1024x128 .f32 := Memref.whole cc0_scratch1

/-- What lies between two points: the scratch buffers at some contents and the generator register at some state. -/
theorem PhiA_eq (c : Dev nD) :
    (Pipeline.ΦA spec0 c : sProp 𝕄)
      = iprop(((∃ f, pt c yScr f) ∗ (∃ f, pt c uScr f)) ∗ (∃ r, prngReg c r)) := by
  unfold Pipeline.ΦA
  rw [scopedRest0_eq]

/-- The body's row in the table at point t. -/
theorem defs₀_row (t : Fin cfg0.N) : defs₀ (F := F) .tc cfg0.body (cfg0.bodyArgs t (cfg0.slots t)) = bodyAt0 t := by
  unfold defs₀; rw [Defs.onTc_tc]

/-- The body at any point, whatever its buffers hold. -/
theorem runAny (c : Dev nD) (i : grid0.Coords)
    (M0 : Memref sig .tc .vmem S16x1024x64 .f32) (h0 : M0.IsWhole) (f0 : Bf (F := F) c M0)
    (M1 : Memref sig .tc .vmem S1024x64 .f32) (h1 : M1.IsWhole) (f1 : Bf (F := F) c M1)
    (M2 : Memref sig .tc .vmem S64x128 .bf16) (h2 : M2.IsWhole) (f2 : Bf (F := F) c M2)
    (M3 : Memref sig .tc .vmem S1x128 .f32) (h3 : M3.IsWhole) (f3 : Bf (F := F) c M3)
    (M4 : Memref sig .tc .vmem S1x128 .f32) (h4 : M4.IsWhole) (f4 : Bf (F := F) c M4)
    (M5 : Memref sig .tc .vmem S128x64 .bf16) (h5 : M5.IsWhole) (f5 : Bf (F := F) c M5)
    (M6 : Memref sig .tc .vmem S1x64 .f32) (h6 : M6.IsWhole) (f6 : Bf (F := F) c M6)
    (M7 : Memref sig .tc .vmem S64x128 .bf16) (h7 : M7.IsWhole) (f7 : Bf (F := F) c M7)
    (M8 : Memref sig .tc .vmem S128x64 .bf16) (h8 : M8.IsWhole) (f8 : Bf (F := F) c M8)
    (M9 : Memref sig .tc .vmem S128x128 .bf16) (h9 : M9.IsWhole) (f9 : Bf (F := F) c M9)
    (M10 : Memref sig .tc .vmem S1x32 .f32) (h10 : M10.IsWhole) (f10 : Bf (F := F) c M10)
    (M11 : Memref sig .tc .vmem S1x32 .f32) (h11 : M11.IsWhole) (f11 : Bf (F := F) c M11)
    (M12 : Memref sig .tc .vmem S32x64 .f32) (h12 : M12.IsWhole) (f12 : Bf (F := F) c M12)
    (M13 : Memref sig .tc .vmem S1x64 .f32) (h13 : M13.IsWhole) (f13 : Bf (F := F) c M13)
    (M14 : Memref sig .tc .vmem S1x1 .f32) (h14 : M14.IsWhole) (f14 : Bf (F := F) c M14)
    (M15 : Memref sig .tc .vmem S1x1 .f32) (h15 : M15.IsWhole) (f15 : Bf (F := F) c M15)
    (M16 : Memref sig .tc .vmem S16x1024x64 .f32) (h16 : M16.IsWhole) (f16 : Bf (F := F) c M16)
    (M17 : Memref sig .tc .vmem S1024x64 .f32) (h17 : M17.IsWhole) (f17 : Bf (F := F) c M17)
    (M18 : Memref sig .tc .vmem S16x1024x128 .f32) (h18 : M18.IsWhole) (f18 : Bf (F := F) c M18)
    (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18
        ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ (∃ f, pt c M16 f) ∗ (∃ f, pt c M17 f) ∗ (∃ f, pt c M18 f)) -∗ Q ⟨⟩))
      ⊢ wp frame (wpE (defs₀ (F := F)) Variants.none c none) Set.univ
          (cc0_langevin_sde i M0 h0 M1 h1 M2 h2 M3 h3 M4 h4 M5 h5 M6 h6 M7 h7 M8 h8 M9 h9 M10 h10 M11 h11 M12 h12 M13 h13 M14 h14 M15 h15 M16 h16 M17 h17 M18 h18) Q := by
  iintro ⟨H0, H1, H2, H3, H4, H5, H6, H7, H8, H9, H10, H11, H12, H13, H14, H15, H16, H17, H18, Hk⟩
  by_cases hc : IsFirst i
  · iapply (runFirst c i hc M0 h0 f0 M1 h1 f1 M2 h2 f2 M3 h3 f3 M4 h4 f4 M5 h5 f5 M6 h6 f6 M7 h7 f7 M8 h8 f8 M9 h9 f9 M10 h10 f10 M11 h11 f11 M12 h12 f12 M13 h13 f13 M14 h14 f14 M15 h15 f15 M16 h16 f16 M17 h17 f17 M18 h18 f18 Q)
    iframe
    iintro ⟨H0, H1, H2, H3, H4, H5, H6, H7, H8, H9, H10, H11, H12, H13, H14, H15, ⟨%g16, -, H16⟩, ⟨%g17, -, H17⟩, H18⟩
    iapply Hk
    iframe
    isplitl [H16]
    · iexists _; iexact H16
    iexists _; iexact H17
  · iapply (runLater c i hc M0 h0 f0 M1 h1 f1 M2 h2 f2 M3 h3 f3 M4 h4 f4 M5 h5 f5 M6 h6 f6 M7 h7 f7 M8 h8 f8 M9 h9 f9 M10 h10 f10 M11 h11 f11 M12 h12 f12 M13 h13 f13 M14 h14 f14 M15 h15 f15 M16 h16 f16 M17 h17 f17 M18 h18 f18 Q)
    iframe
    iintro ⟨H0, H1, H2, H3, H4, H5, H6, H7, H8, H9, H10, H11, H12, H13, H14, H15, ⟨%g16, -, H16⟩, ⟨%g17, -, H17⟩, H18⟩
    iapply Hk
    iframe
    isplitl [H16]
    · iexists _; iexact H16
    iexists _; iexact H17

/-- No window's contents are followed. -/
def fgtAll : Fin 17 → Bool := fun _ => true

/-- The proof data on core c: the arrays as the region finds them, nothing followed after that. -/
def datsA (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

def preA (c : Dev nD) (t : Fin cfg0.N) : sProp 𝕄 :=
  iprop((datsA m 0 c).Φ t.castSucc ∗ (datsA m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X))
def postA (c : Dev nD) (t : Fin cfg0.N) : sProp 𝕄 :=
  iprop((datsA m 0 c).Φ t.succ ∗ (datsA m 0 c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X))

set_option maxHeartbeats 4000000 in
/-- The body takes what a point starts from to what it ends with. -/
theorem soundA (c : Dev nD) (t : Fin cfg0.N) :
    preA m c t ⊢ wp frame (wpE (defs₀ (F := F)) Variants.none c none) Set.univ (bodyAt0 t) (fun _ => postA m c t) := by
  unfold preA postA bodyAt0
  rw [show (datsA m 0 c).Φ t.succ = Pipeline.ΦA spec0 c from rfl,
    show (datsA m 0 c).owesAt () t.succ = (datsA m 0 c).owesAt () t.castSucc from rfl,
    show (datsA m 0 c).Φ t.castSucc = Pipeline.ΦA spec0 c from rfl, PhiA_eq]
  rw [Memref.IsWhole.exists_owns_eq (c := (c : Thread nD τ)) (m := st0_0 t) (hstage0_0 ((cfg0.slots t 0).cast nbuf0_0)) fullShare,
    Memref.IsWhole.exists_owns_eq (c := (c : Thread nD τ)) (m := st0_1 t) (hstage0_1 ((cfg0.slots t 1).cast nbuf0_1)) fullShare,
    Memref.IsWhole.exists_owns_eq (c := (c : Thread nD τ)) (m := st0_2 t) (hstage0_2 ((cfg0.slots t 2).cast nbuf0_2)) fullShare,
    Memref.IsWhole.exists_owns_eq (c := (c : Thread nD τ)) (m := st0_3 t) (hstage0_3 ((cfg0.slots t 3).cast nbuf0_3)) fullShare,
    Memref.IsWhole.exists_owns_eq (c := (c : Thread nD τ)) (m := st0_4 t) (hstage0_4 ((cfg0.slots t 4).cast nbuf0_4)) fullShare,
    Memref.IsWhole.exists_owns_eq (c := (c : Thread nD τ)) (m := st0_5 t) (hstage0_5 ((cfg0.slots t 5).cast nbuf0_5)) fullShare,
    Memref.IsWhole.exists_owns_eq (c := (c : Thread nD τ)) (m := st0_6 t) (hstage0_6 ((cfg0.slots t 6).cast nbuf0_6)) fullShare,
    Memref.IsWhole.exists_owns_eq (c := (c : Thread nD τ)) (m := st0_7 t) (hstage0_7 ((cfg0.slots t 7).cast nbuf0_7)) fullShare,
    Memref.IsWhole.exists_owns_eq (c := (c : Thread nD τ)) (m := st0_8 t) (hstage0_8 ((cfg0.slots t 8).cast nbuf0_8)) fullShare,
    Memref.IsWhole.exists_owns_eq (c := (c : Thread nD τ)) (m := st0_9 t) (hstage0_9 ((cfg0.slots t 9).cast nbuf0_9)) fullShare,
    Memref.IsWhole.exists_owns_eq (c := (c : Thread nD τ)) (m := st0_10 t) (hstage0_10 ((cfg0.slots t 10).cast nbuf0_10)) fullShare,
    Memref.IsWhole.exists_owns_eq (c := (c : Thread nD τ)) (m := st0_11 t) (hstage0_11 ((cfg0.slots t 11).cast nbuf0_11)) fullShare,
    Memref.IsWhole.exists_owns_eq (c := (c : Thread nD τ)) (m := st0_12 t) (hstage0_12 ((cfg0.slots t 12).cast nbuf0_12)) fullShare,
    Memref.IsWhole.exists_owns_eq (c := (c : Thread nD τ)) (m := st0_13 t) (hstage0_13 ((cfg0.slots t 13).cast nbuf0_13)) fullShare,
    Memref.IsWhole.exists_owns_eq (c := (c : Thread nD τ)) (m := st0_14 t) (hstage0_14 ((cfg0.slots t 14).cast nbuf0_14)) fullShare,
    Memref.IsWhole.exists_owns_eq (c := (c : Thread nD τ)) (m := st0_15 t) (hstage0_15 ((cfg0.slots t 15).cast nbuf0_15)) fullShare,
    Memref.IsWhole.exists_owns_eq (c := (c : Thread nD τ)) (m := st0_16 t) (hstage0_16 ((cfg0.slots t 16).cast nbuf0_16)) fullShare]
  iintro ⟨⟨⟨⟨%f17, H17⟩, ⟨%f18, H18⟩⟩, Hg⟩, HO, ⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  iapply (runAny c (grid0.coords t) (win0_0.stage (cfg0.slots t 0)) (hstage0_0 ((cfg0.slots t 0).cast nbuf0_0)) f0 (win0_1.stage (cfg0.slots t 1)) (hstage0_1 ((cfg0.slots t 1).cast nbuf0_1)) f1 (win0_2.stage (cfg0.slots t 2)) (hstage0_2 ((cfg0.slots t 2).cast nbuf0_2)) f2 (win0_3.stage (cfg0.slots t 3)) (hstage0_3 ((cfg0.slots t 3).cast nbuf0_3)) f3 (win0_4.stage (cfg0.slots t 4)) (hstage0_4 ((cfg0.slots t 4).cast nbuf0_4)) f4 (win0_5.stage (cfg0.slots t 5)) (hstage0_5 ((cfg0.slots t 5).cast nbuf0_5)) f5 (win0_6.stage (cfg0.slots t 6)) (hstage0_6 ((cfg0.slots t 6).cast nbuf0_6)) f6 (win0_7.stage (cfg0.slots t 7)) (hstage0_7 ((cfg0.slots t 7).cast nbuf0_7)) f7 (win0_8.stage (cfg0.slots t 8)) (hstage0_8 ((cfg0.slots t 8).cast nbuf0_8)) f8 (win0_9.stage (cfg0.slots t 9)) (hstage0_9 ((cfg0.slots t 9).cast nbuf0_9)) f9 (win0_10.stage (cfg0.slots t 10)) (hstage0_10 ((cfg0.slots t 10).cast nbuf0_10)) f10 (win0_11.stage (cfg0.slots t 11)) (hstage0_11 ((cfg0.slots t 11).cast nbuf0_11)) f11 (win0_12.stage (cfg0.slots t 12)) (hstage0_12 ((cfg0.slots t 12).cast nbuf0_12)) f12 (win0_13.stage (cfg0.slots t 13)) (hstage0_13 ((cfg0.slots t 13).cast nbuf0_13)) f13 (win0_14.stage (cfg0.slots t 14)) (hstage0_14 ((cfg0.slots t 14).cast nbuf0_14)) f14 (win0_15.stage (cfg0.slots t 15)) (hstage0_15 ((cfg0.slots t 15).cast nbuf0_15)) f15 (win0_16.stage (cfg0.slots t 16)) (hstage0_16 ((cfg0.slots t 16).cast nbuf0_16)) f16 yScr (Memref.isWhole_whole _) f17 uScr (Memref.isWhole_whole _) f18 _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  iintro ⟨H0, H1, H2, H3, H4, H5, H6, H7, H8, H9, H10, H11, H12, H13, H14, H15, ⟨%g16, H16⟩, ⟨%g17, H17⟩, ⟨%g18, H18⟩⟩
  isplitl [H17 H18 Hg]
  · isplitl [H17 H18]
    · isplitl [H17]
      · iexists _; iexact H17
      iexists _; iexact H18
    iexact Hg
  isplitl [HO]
  · iexact HO
  isplitl [H0]
  · iexists _; iexact H0
  isplitl [H1]
  · iexists _; iexact H1
  isplitl [H2]
  · iexists _; iexact H2
  isplitl [H3]
  · iexists _; iexact H3
  isplitl [H4]
  · iexists _; iexact H4
  isplitl [H5]
  · iexists _; iexact H5
  isplitl [H6]
  · iexists _; iexact H6
  isplitl [H7]
  · iexists _; iexact H7
  isplitl [H8]
  · iexists _; iexact H8
  isplitl [H9]
  · iexists _; iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  iexists _; iexact H16

theorem obligationA (c : Dev nD) :
    Pipeline.BodyObligationLoose (datsA (F := F) m 0 c) (defs₀ (F := F)) Variants.none () Set.univ fgtAll := fun t => by
  rw [bigSep_W0, bigSep_W0, defs₀_row]
  exact triple_restated (soundA m c t) rfl .rfl fun _ => .rfl

/-- The one buffer written after the region. -/
abbrev Tail : Finset (Ref sig .tc) := {main_v27}

theorem tail_writes : ∀ ops ∈ ([hostOps1] : List (List (HloOp τ sig (Elt F)))), ∀ op ∈ ops, ∀ b : Ref sig .tc,
    Proc.devRef .tc b ∈ op.writes → b ∈ Tail := by
  intro ops hops op hop b hb
  simp only [List.mem_singleton] at hops
  subst hops
  simp only [hostOps1, List.mem_singleton] at hop
  subst hop
  simp only [StableHlo.unary_writes, Finset.mem_singleton] at hb
  by_contra h
  exact StableHlo.devRef_ne_of_ne (fun e => h (Finset.mem_singleton.2 e)) hb

set_option backward.isDefEq.respectTransparency.types false in
theorem run_any :
    θ_run defs (onTc (τ := τ) (main (F := F))) (s₀ m ρ)
      (fun r => Pipeline.RDat.FramePostR cfg0 (fun c => (datsA m 0 c).toRForget fgtAll) Tail (V m) r ∧ r.2.sem = fun _ => 0) :=
  Pipeline.θ_run_frame_around_T_forget (Q' := _) cfgs (datsA m) (0 : Fin 1) launch0 defs₀ Variants.none fgtAll Tail m ρ main
    (hbody := obligationA m) (hshare := fun c => (datsA m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := fun _ _ => rfl) (hΦ := fun _ _ => rfl) (hQ' := fun _ h => h)

theorem frame_any :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) := by
  refine (θ_run _ _ _).mono (fun r h => ⟨fun c => ⟨((h.1 c).2 main_arg0 (by decide)).trans (V_main_arg0 m c),
      (h.1.arr_in c 0 rfl).trans (V_main_arg1 m c),
      ((h.1 c).2 main_arg2 (by decide)).trans (V_main_arg2 m c),
      ((h.1 c).2 main_arg3 (by decide)).trans (V_main_arg3 m c),
      ((h.1 c).2 main_arg4 (by decide)).trans (V_main_arg4 m c),
      ((h.1 c).2 main_arg5 (by decide)).trans (V_main_arg5 m c),
      ((h.1 c).2 main_arg6 (by decide)).trans (V_main_arg6 m c),
      ((h.1 c).2 main_arg7 (by decide)).trans (V_main_arg7 m c),
      (h.1.arr_in c 10 rfl).trans (V_main_arg8 m c),
      ((h.1 c).2 main_arg9 (by decide)).trans (V_main_arg9 m c),
      (h.1.arr_in c 12 rfl).trans (V_main_arg10 m c),
      ((h.1 c).2 main_arg11 (by decide)).trans (V_main_arg11 m c),
      ((h.1 c).2 main_arg12 (by decide)).trans (V_main_arg12 m c),
      ((h.1 c).2 main_arg13 (by decide)).trans (V_main_arg13 m c)⟩, h.2⟩) (run_any m ρ)

end Cert.Proof

end
-- ==== Proof.Frames.lean ====
/-
  The frame claims. The kernel and its idealized print are one text under two names, so what holds of the runs of the one
  at any float instance holds of the runs of the other.
-/
module

public import proofs.«01_k».proof.Defs
public import proofs.«01_k».proof.Proof.FrameRun
public import Idealize.ShloMosaic.Lib.Quiescent
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem

set_option smartUnfolding false in
/-- A run of the idealized print's text at the machine's floats is a run of the kernel's text. -/
theorem kernel_of_ideal {s : MemSt Cert.KernelIdeal.nD Cert.KernelIdeal.τ Cert.KernelIdeal.sig (Elt Bits)}
    {Q : PUnit × MemSt Cert.KernelIdeal.nD Cert.KernelIdeal.τ Cert.KernelIdeal.sig (Elt Bits) → Prop}
    (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q := h

theorem frameKernel : Cert.quiescent_Kernel (hKernel := Cert.Kernel.Gen.facts) :=
  fun m g _ => kernel_of_ideal (frame_any (F := Bits) m g)

theorem frameIdeal : Cert.quiescent_KernelIdeal (hKernelIdeal := Cert.KernelIdeal.Gen.facts) :=
  fun m g _ => frame_any (F := Ideal) m g

theorem frameReference : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run (F := Ideal) m g)

end Cert.Proof

end
-- ==== Proof.Model.lean ====
/-
  The stochastic recurrence both programs compute, over the extended reals: one row of the batch steps down the gradient of the
  drift's potential, plus scaled noise.
-/
module

public import Idealize.ShloMosaic.PureOps.Ideal.Laws
public import Idealize.ShloMosaic.Lib.Pointwise

@[expose] public section

noncomputable section

namespace Cert.Proof

open Idealize.ShloMosaic
open scoped BigOperators

/-- The hyperbolic tangent of an extended real is a real. -/
def th (x : EReal) : ℝ := (Ideal.tanh x).toReal

theorem tanh_eq (x : EReal) : Ideal.tanh x = (th x : EReal) := by
  induction x using EReal.rec with
  | bot => simp [th]
  | coe r => simp [th]
  | top => simp [th]

/-- The step of the time grid: the printed constant, 0.01 rounded to a 32-bit float. -/
def dt : ℝ := 10737418 * (2 : ℝ) ^ (-30 : ℤ)

theorem ofBits_dt : Ideal.ofBits .f32 0x3C23D70A#32 = (dt : EReal) := by
  simp [Ideal.ofBits, Ideal.ieee, dt]

theorem ofBits_one : Ideal.ofBits .f32 0x3F800000#32 = ((1 : ℝ) : EReal) := by
  simp [Ideal.ofBits, Ideal.ieee]
  norm_num
  rw [← EReal.coe_mul]
  norm_num

theorem ofBits_two : Ideal.ofBits .f32 0x40000000#32 = ((2 : ℝ) : EReal) := by
  simp [Ideal.ofBits, Ideal.ieee]
  norm_num
  rw [← EReal.coe_mul]
  norm_num

theorem dt_nonneg : 0 ≤ dt := by unfold dt; positivity

/-- What the recurrence reads: the drift's weights, the diffusion at every step, the noise and the state it starts from.
    The second layer's bias and the state may be infinite. -/
structure Net where
  w : Fin 65 → Fin 128 → ℝ
  b1 : Fin 128 → ℝ
  w2 : Fin 128 → Fin 64 → ℝ
  b2 : Fin 64 → EReal
  w3 : Fin 64 → ℝ
  sig : ℕ → Fin 64 → ℝ
  z : ℕ → Fin 1024 → Fin 64 → ℝ
  y0 : Fin 1024 → Fin 64 → EReal

/-- The time before step s, and the length of step s. -/
def time (s : ℕ) : ℝ := ((s : ℝ) + 1) * dt
def len (s : ℕ) : ℝ := time (s + 1) - time s

theorem len_nonneg (s : ℕ) : 0 ≤ len s := by
  have := dt_nonneg
  unfold len time; push_cast; nlinarith

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real times the sum of an extended real and a real: the product distributes, whatever the extended real. -/
theorem add_coe_mul_coe (x : EReal) (d v : ℝ) : (x + (d : EReal)) * (v : EReal) = x * (v : EReal) + ((d * v : ℝ) : EReal) := by
  induction x using EReal.rec with
  | coe r => rw [← EReal.coe_add, ← EReal.coe_mul, ← EReal.coe_mul, ← EReal.coe_add]; exact congrArg _ (by ring)
  | bot =>
    rw [EReal.bot_add]
    rcases lt_trichotomy v 0 with h | h | h
    · rw [EReal.bot_mul_coe_of_neg h, EReal.top_add_coe]
    · subst h; simp
    · rw [EReal.bot_mul_coe_of_pos h, EReal.bot_add]
  | top =>
    rw [EReal.top_add_coe]
    rcases lt_trichotomy v 0 with h | h | h
    · rw [EReal.top_mul_coe_of_neg h, EReal.bot_add]
    · subst h; simp
    · rw [EReal.top_mul_coe_of_pos h, EReal.top_add_coe]

namespace Net
variable (N : Net)

/-- The first layer's pre-activation at the state y before step s. -/
def pre (s : ℕ) (y : Fin 64 → EReal) (k : Fin 128) : EReal :=
  (∑ i : Fin 64, y i * (N.w i.castSucc k : EReal)) + ((time s * N.w (Fin.last 64) k + N.b1 k : ℝ) : EReal)

/-- The second layer. -/
def hid (a : Fin 128 → EReal) (m : Fin 64) : ℝ :=
  th (((∑ k : Fin 128, th (a k) * N.w2 k m : ℝ) : EReal) + N.b2 m)

/-- The gradient of the potential at the first layer's pre-activation. -/
def grad (a : Fin 128 → EReal) (k : Fin 128) : ℝ :=
  (∑ m : Fin 64, (1 - N.hid a m * N.hid a m) * (N.w2 k m * N.w3 m)) * (1 - th (a k) * th (a k))

/-- The noise's coefficient at step s. -/
def amp (s : ℕ) (i : Fin 64) : ℝ := N.sig s i * Real.sqrt (len s)

/-- What step s subtracts from the state y. -/
def drop (s : ℕ) (y : Fin 64 → EReal) (i : Fin 64) : ℝ :=
  ∑ k : Fin 128, (N.grad (N.pre s y) k * len s) * N.w i.castSucc k

/-- The state after step s. -/
def next (s : ℕ) (r : Fin 1024) (y : Fin 64 → EReal) (i : Fin 64) : EReal :=
  y i - (N.drop s y i : EReal) + ((N.amp s i * N.z s r i : ℝ) : EReal)

/-- The state before step s. -/
def Y : ℕ → Fin 1024 → Fin 64 → EReal
  | 0 => N.y0
  | s + 1 => fun r => N.next s r (Y s r)

/-- The pre-activation of the next step, from this step's: the kernel's own update.  The state may be infinite, since what
    a step adds to it and the weights are finite. -/
theorem pre_next (s : ℕ) (r : Fin 1024) (y : Fin 64 → EReal) (k : Fin 128) :
    N.pre (s + 1) (N.next s r y) k =
      N.pre s y k - ((∑ l : Fin 128, (N.grad (N.pre s y) l * len s) * (∑ i : Fin 64, N.w i.castSucc l * N.w i.castSucc k) : ℝ) : EReal)
        + (((∑ i : Fin 64, (N.amp s i * N.z s r i) * N.w i.castSucc k)
          + ((time (s + 1) * N.w (Fin.last 64) k + N.b1 k) - (time s * N.w (Fin.last 64) k + N.b1 k)) : ℝ) : EReal) := by
  have e : (∑ l : Fin 128, (N.grad (N.pre s y) l * len s) * (∑ i : Fin 64, N.w i.castSucc l * N.w i.castSucc k))
      = ∑ i : Fin 64, N.drop s y i * N.w i.castSucc k := by
    simp only [drop, Finset.mul_sum, Finset.sum_mul]
    rw [Finset.sum_comm]
    exact Finset.sum_congr rfl fun i _ => Finset.sum_congr rfl fun l _ => by ring
  have e2 : (∑ i : Fin 64, N.next s r y i * (N.w i.castSucc k : EReal)) =
      (∑ i : Fin 64, y i * (N.w i.castSucc k : EReal))
        + ((∑ i : Fin 64, (-N.drop s y i + N.amp s i * N.z s r i) * N.w i.castSucc k : ℝ) : EReal) := by
    rw [coe_sum, ← Finset.sum_add_distrib]
    refine Finset.sum_congr rfl fun i _ => ?_
    rw [← add_coe_mul_coe]
    unfold next
    rw [sub_eq_add_neg, add_assoc, ← EReal.coe_neg, ← EReal.coe_add]
  rw [e]
  show (∑ i : Fin 64, N.next s r y i * (N.w i.castSucc k : EReal)) + ((time (s + 1) * N.w (Fin.last 64) k + N.b1 k : ℝ) : EReal) = _
  rw [e2, pre]
  simp only [sub_eq_add_neg, ← EReal.coe_neg, add_assoc, ← EReal.coe_add]
  refine congrArg (fun t : ℝ => (∑ i : Fin 64, y i * (N.w i.castSucc k : EReal)) + (t : EReal)) ?_
  simp only [add_mul, Finset.sum_add_distrib, neg_mul, Finset.sum_neg_distrib]
  ring

end Net

end Cert.Proof

end
-- ==== Proof.Data.lean ====
/-
  The programs' arguments as the recurrence's data: what the recurrence reads from them, and what is asked of them.
-/
module

public import proofs.«01_k».proof.Proof.Model

@[expose] public section

noncomputable section

namespace Cert.Proof

open Idealize.ShloMosaic
open scoped BigOperators

/-- The arrays both programs read, and the state they start from. -/
structure Args where
  times : FVec Ideal ⟨1, ![512]⟩ .f32
  noise : FVec Ideal ⟨3, ![511, 1024, 64]⟩ .f32
  wp1 : FVec Ideal ⟨2, ![65, 128]⟩ .f32
  bp1 : FVec Ideal ⟨1, ![128]⟩ .f32
  wp2 : FVec Ideal ⟨2, ![128, 64]⟩ .f32
  bp2 : FVec Ideal ⟨1, ![64]⟩ .f32
  wp3 : FVec Ideal ⟨2, ![64, 1]⟩ .f32
  wd1 : FVec Ideal ⟨2, ![1, 32]⟩ .f32
  bd1 : FVec Ideal ⟨1, ![32]⟩ .f32
  wd2 : FVec Ideal ⟨2, ![32, 64]⟩ .f32
  bd2 : FVec Ideal ⟨1, ![64]⟩ .f32
  mn : FVec Ideal ⟨0, ![]⟩ .f32
  mx : FVec Ideal ⟨0, ![]⟩ .f32
  start : FVec Ideal ⟨2, ![1024, 64]⟩ .f32

/-- The magnitude of an extended real. -/
def mag (x : EReal) : EReal := max x (-x)

theorem mag_nonneg (x : EReal) : 0 ≤ mag x := by
  rcases le_total 0 x with h | h
  · exact le_max_of_le_left h
  · exact le_max_of_le_right (by simpa using EReal.neg_le_neg_iff.2 h)

theorem fin_of_mag (x : EReal) (h : mag x < ⊤) : x = (x.toReal : EReal) := by
  refine (EReal.coe_toReal ?_ ?_).symm
  · rintro rfl; simp [mag] at h
  · rintro rfl; simp [mag] at h

/-- The logarithm of one plus the exponential, as the programs compute it. -/
def soft (x : EReal) : EReal := max x 0 + Ideal.log1p (Ideal.exp (-mag x))

namespace Args
variable (A : Args)

/-- The diffusion network's output at time t. -/
def diff (t : EReal) (i : Fin 64) : EReal :=
  (∑ l : Fin 32, max (t * A.wd1 (ix2 0 l) + A.bd1 (ix1 l)) 0 * A.wd2 (ix2 l i)) + A.bd2 (ix1 i)

/-- The diffusion at time t: the network's output, floored and capped. -/
def diffusion (t : EReal) (i : Fin 64) : EReal :=
  min (mag (A.mx ix0)) (max (mag (A.mn ix0)) (soft (A.diff t i) + mag (A.mn ix0)))

/-- The recurrence's data. -/
def net : Net where
  w i k := (A.wp1 (ix2 i k)).toReal
  b1 k := (A.bp1 (ix1 k)).toReal
  w2 k m := (A.wp2 (ix2 k m)).toReal
  b2 m := A.bp2 (ix1 m)
  w3 m := (A.wp3 (ix2 m 0)).toReal
  sig s i := (A.diffusion (time s : EReal) i).toReal
  z s r i := if h : s < 511 then (A.noise (ix3 ⟨s, h⟩ r i)).toReal else 0
  y0 r i := A.start (ix2 r i)

/-- What is asked of the arguments: the time grid, and that what enters a difference is finite. -/
structure Good : Prop where
  times : ∀ s : Fin 512, A.times (ix1 s) = (time s.val : EReal)
  noise : ∀ s r i, mag (A.noise (ix3 s r i)) < ⊤
  wp1 : ∀ i k, mag (A.wp1 (ix2 i k)) < ⊤
  bp1 : ∀ k, mag (A.bp1 (ix1 k)) < ⊤
  wp2 : ∀ k m, mag (A.wp2 (ix2 k m)) < ⊤
  wp3 : ∀ m, mag (A.wp3 (ix2 m 0)) < ⊤
  mx : mag (A.mx ix0) < ⊤

theorem e_start (r : Fin 1024) (i : Fin 64) : A.start (ix2 r i) = A.net.y0 r i := rfl

variable {A}

namespace Good
variable (G : A.Good)
include G

theorem e_wp1 (i : Fin 65) (k : Fin 128) : A.wp1 (ix2 i k) = (A.net.w i k : EReal) := fin_of_mag _ (G.wp1 i k)
theorem e_bp1 (k : Fin 128) : A.bp1 (ix1 k) = (A.net.b1 k : EReal) := fin_of_mag _ (G.bp1 k)
theorem e_wp2 (k : Fin 128) (m : Fin 64) : A.wp2 (ix2 k m) = (A.net.w2 k m : EReal) := fin_of_mag _ (G.wp2 k m)
theorem e_wp3 (m : Fin 64) : A.wp3 (ix2 m 0) = (A.net.w3 m : EReal) := fin_of_mag _ (G.wp3 m)
theorem e_noise (s : ℕ) (hs : s < 511) (r : Fin 1024) (i : Fin 64) : A.noise (ix3 ⟨s, hs⟩ r i) = (A.net.z s r i : EReal) := by
  rw [fin_of_mag _ (G.noise ⟨s, hs⟩ r i)]
  simp only [net, dif_pos hs, EReal.toReal_coe]

/-- The cap is finite and the diffusion is between zero and it, so it is a real. -/
theorem e_sig (s : ℕ) (i : Fin 64) : A.diffusion (time s : EReal) i = (A.net.sig s i : EReal) := by
  refine (EReal.coe_toReal ?_ ?_).symm
  · exact ne_of_lt (lt_of_le_of_lt (min_le_left _ _) G.mx)
  · refine ne_of_gt (lt_of_lt_of_le (EReal.bot_lt_coe 0) ?_)
    exact le_min (mag_nonneg _) (le_max_of_le_left (mag_nonneg _))

end Good
end Args

/-- The root of a step's length. -/
theorem sqrt_len (s : ℕ) : Ideal.sqrt (len s : EReal) = (Real.sqrt (len s) : EReal) := by
  rw [Ideal.sqrt_coe, if_neg (not_lt.2 (len_nonneg s))]

end Cert.Proof

end
-- ==== Proof.PayReads.lean ====
/-
  What a block's first part computes, read at an index over the extended reals.
-/
module

public import proofs.«01_k».proof.Proof.Body
public import proofs.«01_k».proof.Proof.Data

@[expose] public section

noncomputable section

namespace Cert.Proof

open Cert.KernelIdeal Cert.KernelIdeal.Gen
open Idealize.ShloMosaic
open scoped BigOperators

variable (i : grid0.Coords)

/-- The step's number, as the kernel computes it from the grid point and the row. -/
theorem stepNo (j : Fin 16) :
    (FloatOps.sitofp (F := Ideal) FTy.f32 (IntOp.addi (Scalar.muli (BitVec.ofNat 32 (i 0).val) 16#32) (BitVec.ofNat 32 j.val)) : EReal)
      = (((16 * (i 0).val + j.val : ℕ) : ℝ) : EReal) := by
  have hi : (i 0).val < 32 := (i 0).isLt
  have hj := j.isLt
  have e : IntOp.addi (Scalar.muli (BitVec.ofNat 32 (i 0).val) 16#32) (BitVec.ofNat 32 j.val) = BitVec.ofNat 32 (16 * (i 0).val + j.val) := by
    apply BitVec.eq_of_toNat_eq
    simp [IntOp.addi, Scalar.muli, IntOp.muli, BitVec.toNat_ofNat, BitVec.toNat_add, BitVec.toNat_mul]
    omega
  rw [e]
  have e2 : (BitVec.ofNat 32 (16 * (i 0).val + j.val)).toInt = ((16 * (i 0).val + j.val : ℕ) : ℤ) := by
    rw [BitVec.toInt_eq_toNat_of_lt (by rw [BitVec.toNat_ofNat]; omega), BitVec.toNat_ofNat]
    congr 1; omega
  show (((BitVec.ofNat 32 (16 * (i 0).val + j.val)).toInt : ℝ) : EReal) = _
  rw [e2]; norm_cast

theorem pay4_apply (j : Fin 16) : k0_pay4 (F := Ideal) i (ix2 j 0) = (time (16 * (i 0).val + j.val) : EReal) := by
  pointwise [k0_pay3, k0_pay4]
  rw [stepNo, ofBits_dt, ← EReal.coe_one, ← EReal.coe_add, ← EReal.coe_mul]
  rfl

theorem pay5_apply (j : Fin 16) : k0_pay5 (F := Ideal) i (ix2 j 0) = (len (16 * (i 0).val + j.val) : EReal) := by
  pointwise [k0_pay3, k0_pay5]
  rw [pay4_apply, stepNo, ofBits_dt, ofBits_two, ← EReal.coe_add, ← EReal.coe_mul, ← EReal.coe_sub]
  refine congrArg _ ?_
  unfold len time
  push_cast
  ring

theorem pay9_apply (X10 X11 : FVec Ideal S1x32 .f32) (X12 : FVec Ideal S32x64 .f32) (j : Fin 16) (n : Fin 64) :
    k0_pay9 i X10 X11 X12 (ix2 j n) =
      ∑ l : Fin 32, max (k0_pay4 (F := Ideal) i (ix2 j 0) * X10 (ix2 0 l) + X11 (ix2 0 l)) 0 * X12 (ix2 l n) := by
  pointwise [k0_pay9]

theorem pay10_apply (h : FVec Ideal S16x1 .f32) (X14 X15 : FVec Ideal S1x1 .f32) (d : FVec Ideal S16x64 .f32)
    (X13 : FVec Ideal S1x64 .f32) (j : Fin 16) (n : Fin 64) :
    k0_pay10 h (k0_pay7 X14) (k0_pay8 X15) d X13 (ix2 j n) =
      min (mag (X15 (ix2 0 0))) (max (mag (X14 (ix2 0 0))) (soft (d (ix2 j n) + X13 (ix2 0 n)) + mag (X14 (ix2 0 0)))) * h (ix2 j 0) := by
  pointwise [k0_pay10, k0_pay7, k0_pay8]
  rw [if_neg (not_not.2 rfl), zero_sub]
  rfl

theorem pay11_apply (t : FVec Ideal S16x1 .f32) (X3 X4 : FVec Ideal S1x128 .f32) (j : Fin 16) (k : Fin 128) :
    k0_pay11 t X3 X4 (ix2 j k) = t (ix2 j 0) * X3 (ix2 0 k) + X4 (ix2 0 k) := by
  pointwise [k0_pay11]

theorem pay12_apply (X : FVec Ideal S64x128 .bf16) (a : Fin 64) (b : Fin 128) : k0_pay12 X (ix2 a b) = X (ix2 a b) := by
  pointwise [k0_pay12]

theorem pay18_apply (sg : FVec Ideal S16x64 .f32) (w : FVec Ideal S64x128 .bf16) (X0 : FVec Ideal S16x1024x64 .f32)
    (j : Fin 16) (r : Fin 1024) (k : Fin 128) :
    k0_pay18 sg w X0 (ix3 j r k) = ∑ n : Fin 64, (sg (ix2 j n) * X0 (ix3 j r n)) * w (ix2 n k) := by
  pointwise [k0_pay18]

end Cert.Proof

end
-- ==== Proof.Reads.lean ====
/-
  The operations of one step of the kernel's block read at an index over the extended reals.
-/
module

public import proofs.«01_k».proof.Proof.Chain
public import Idealize.ShloMosaic.Lib.Pointwise
public import Idealize.ShloMosaic.PureOps.Ideal.Laws

@[expose] public section

noncomputable section

namespace Cert.Proof

open Cert.KernelIdeal Cert.KernelIdeal.Gen
open Idealize.ShloMosaic
open scoped BigOperators

/-- The pre-activation a block starts from, at a row and a unit. -/
theorem aStart_apply (B : Blk Ideal) (y : FVec Ideal S1024x64 .f32) (r : Fin 1024) (k : Fin 128) :
    aStart B y (ix2 r k) = (∑ i : Fin 64, y (ix2 r i) * B.w1y (ix2 i k)) + B.c1 (ix2 0 k) := by
  pointwise [aStart]

/-- The second layer, at a row and a unit. -/
theorem hidden2_apply (B : Blk Ideal) (a : FVec Ideal S1024x128 .f32) (r : Fin 1024) (m : Fin 64) :
    hidden2 B a (ix2 r m) = Ideal.tanh ((∑ k : Fin 128, Ideal.tanh (a (ix2 r k)) * B.w2 (ix2 k m)) + B.b2 (ix2 0 m)) := by
  pointwise [hidden2]

theorem gradStep_apply (B : Blk Ideal) (j : Fin 16) (a : FVec Ideal S1024x128 .f32) (r : Fin 1024) (k : Fin 128) :
    gradStep B j.val a (ix2 r k) =
      ((∑ m : Fin 64, (1 - hidden2 B a (ix2 r m) * hidden2 B a (ix2 r m)) * B.w2t (ix2 m k))
        * (1 - Ideal.tanh (a (ix2 r k)) * Ideal.tanh (a (ix2 r k)))) * B.hs (ix2 j 0) := by
  have e : ∀ h, (⟨j.val % 16, h⟩ : Fin 16) = j := fun h => Fin.ext (Nat.mod_eq_of_lt j.isLt)
  pointwise [gradStep]
  simp only [e]

theorem yStep_apply (B : Blk Ideal) (j : Fin 16) (y : FVec Ideal S1024x64 .f32) (a : FVec Ideal S1024x128 .f32) (r : Fin 1024) (i : Fin 64) :
    yStep B j.val y a (ix2 r i) =
      y (ix2 r i) - (∑ k : Fin 128, gradStep B j.val a (ix2 r k) * B.w1yt (ix2 k i))
        + B.sig (ix2 j i) * B.noise j.val (ix3 0 r i) := by
  have e : ∀ h, (⟨j.val % 16, h⟩ : Fin 16) = j := fun h => Fin.ext (Nat.mod_eq_of_lt j.isLt)
  pointwise [yStep]
  simp only [e]

theorem aStep_apply (B : Blk Ideal) (j : Fin 15) (a : FVec Ideal S1024x128 .f32) (r : Fin 1024) (k : Fin 128) :
    aStep B j.val a (ix2 r k) =
      a (ix2 r k) - (∑ l : Fin 128, gradStep B j.val a (ix2 r l) * B.p (ix2 l k))
        + (B.u j.val (ix3 0 r k) + (B.c1 (ix2 j.succ k) - B.c1 (ix2 j.castSucc k))) := by
  have e : ∀ h, (⟨j.val % 15, h⟩ : Fin 16) = j.castSucc := fun h => Fin.ext (Nat.mod_eq_of_lt j.isLt)
  have e' : ∀ h, (⟨1 + j.val % 15, h⟩ : Fin 16) = j.succ := fun h =>
    Fin.ext (by show 1 + j.val % 15 = j.val + 1; rw [Nat.mod_eq_of_lt j.isLt]; omega)
  pointwise [aStep, dC]
  simp only [e, e']

end Cert.Proof

end
-- ==== Proof.ChainValue.lean ====
/-
  The kernel's block over the extended reals: where what the block reads is the recurrence's data from step 16 p on, the
  state and the pre-activation before step j of the block are the recurrence's before step 16 p + j.
-/
module

public import proofs.«01_k».proof.Proof.Reads
public import proofs.«01_k».proof.Proof.Model

@[expose] public section

noncomputable section

namespace Cert.Proof

open Cert.KernelIdeal Cert.KernelIdeal.Gen
open Idealize.ShloMosaic
open scoped BigOperators

/-- What block p reads is the recurrence's data from step 16 p on.  The noise's rows past the last step are anything. -/
structure BlkIs (N : Net) (p : ℕ) (B : Blk Ideal) : Prop where
  hs : ∀ j : Fin 16, B.hs (ix2 j 0) = (len (16 * p + j.val) : EReal)
  sig : ∀ (j : Fin 16) (i : Fin 64), B.sig (ix2 j i) = (N.amp (16 * p + j.val) i : EReal)
  w1y : ∀ (i : Fin 64) (k : Fin 128), B.w1y (ix2 i k) = (N.w i.castSucc k : EReal)
  w2 : ∀ (k : Fin 128) (m : Fin 64), B.w2 (ix2 k m) = (N.w2 k m : EReal)
  b2 : ∀ m : Fin 64, B.b2 (ix2 0 m) = N.b2 m
  w2t : ∀ (m : Fin 64) (k : Fin 128), B.w2t (ix2 m k) = ((N.w2 k m * N.w3 m : ℝ) : EReal)
  w1yt : ∀ (k : Fin 128) (i : Fin 64), B.w1yt (ix2 k i) = (N.w i.castSucc k : EReal)
  pm : ∀ l k : Fin 128, B.p (ix2 l k) = ((∑ i : Fin 64, N.w i.castSucc l * N.w i.castSucc k : ℝ) : EReal)
  c1 : ∀ (j : Fin 16) (k : Fin 128), B.c1 (ix2 j k) = ((time (16 * p + j.val) * N.w (Fin.last 64) k + N.b1 k : ℝ) : EReal)
  noise : ∀ (j : Fin 16) (r : Fin 1024) (i : Fin 64), 16 * p + j.val < 511 →
    B.noise j.val (ix3 0 r i) = (N.z (16 * p + j.val) r i : EReal)
  u : ∀ (j : Fin 16) (r : Fin 1024) (k : Fin 128), 16 * p + j.val < 511 →
    B.u j.val (ix3 0 r k) =
      ((∑ i : Fin 64, (N.amp (16 * p + j.val) i * N.z (16 * p + j.val) r i) * N.w i.castSucc k : ℝ) : EReal)

variable {N : Net} {p : ℕ} {B : Blk Ideal}

theorem aStart_eq (H : BlkIs N p B) (y : FVec Ideal S1024x64 .f32) (r : Fin 1024) (Y : Fin 64 → EReal)
    (hy : ∀ i, y (ix2 r i) = (Y i : EReal)) (k : Fin 128) :
    aStart B y (ix2 r k) = (N.pre (16 * p) Y k : EReal) := by
  rw [aStart_apply, H.c1 0 k]
  simp only [hy, H.w1y]
  rfl

theorem hidden2_eq (H : BlkIs N p B) (a : FVec Ideal S1024x128 .f32) (r : Fin 1024) (A : Fin 128 → EReal)
    (ha : ∀ k, a (ix2 r k) = (A k : EReal)) (m : Fin 64) :
    hidden2 B a (ix2 r m) = (N.hid A m : EReal) := by
  rw [hidden2_apply, H.b2, tanh_eq]
  simp only [ha, H.w2, tanh_eq, ← EReal.coe_mul, ← coe_sum]
  rfl

theorem gradStep_eq (H : BlkIs N p B) (j : Fin 16) (a : FVec Ideal S1024x128 .f32) (r : Fin 1024) (A : Fin 128 → EReal)
    (ha : ∀ k, a (ix2 r k) = (A k : EReal)) (k : Fin 128) :
    gradStep B j.val a (ix2 r k) = ((N.grad A k * len (16 * p + j.val) : ℝ) : EReal) := by
  rw [gradStep_apply]
  simp only [hidden2_eq H a r A ha, ha, H.w2t, H.hs, tanh_eq, ← EReal.coe_one, ← EReal.coe_mul, ← EReal.coe_sub, ← coe_sum]
  rfl

theorem yStep_eq (H : BlkIs N p B) (j : Fin 16) (hj : 16 * p + j.val < 511) (y : FVec Ideal S1024x64 .f32) (a : FVec Ideal S1024x128 .f32)
    (r : Fin 1024) (Y : Fin 64 → EReal) (hy : ∀ i, y (ix2 r i) = (Y i : EReal))
    (ha : ∀ k, a (ix2 r k) = (N.pre (16 * p + j.val) Y k : EReal)) (i : Fin 64) :
    yStep B j.val y a (ix2 r i) = (N.next (16 * p + j.val) r Y i : EReal) := by
  rw [yStep_apply, H.noise j r i hj]
  simp only [gradStep_eq H j a r _ ha, hy, H.w1yt, H.sig, ← EReal.coe_mul, ← EReal.coe_sub, ← EReal.coe_add, ← coe_sum]
  rfl

theorem aStep_eq (H : BlkIs N p B) (j : Fin 15) (hj : 16 * p + j.val < 511) (a : FVec Ideal S1024x128 .f32)
    (r : Fin 1024) (Y : Fin 64 → EReal)
    (ha : ∀ k, a (ix2 r k) = (N.pre (16 * p + j.val) Y k : EReal)) (k : Fin 128) :
    aStep B j.val a (ix2 r k) = (N.pre (16 * p + (j.val + 1)) (N.next (16 * p + j.val) r Y) k : EReal) := by
  rw [aStep_apply, H.c1 j.succ k, H.c1 j.castSucc k]
  have hu := H.u j.castSucc r k hj
  have hg := gradStep_eq H j.castSucc a r _ ha
  simp only [Fin.val_castSucc] at hu hg ⊢
  rw [hu]
  simp only [hg, ha, H.pm, ← EReal.coe_mul, ← EReal.coe_sub, ← EReal.coe_add, ← coe_sum]
  exact (N.pre_next (16 * p + j.val) r Y k).symm

/-- The state and the pre-activation before step j of block p are the recurrence's. -/
theorem chain_eq (H : BlkIs N p B) (y : FVec Ideal S1024x64 .f32) (hy : ∀ r i, y (ix2 r i) = (N.Y (16 * p) r i : EReal)) :
    ∀ j : ℕ, j ≤ 16 → 16 * p + j ≤ 511 →
      (∀ r i, (chain B y j).1 (ix2 r i) = (N.Y (16 * p + j) r i : EReal)) ∧
      (j ≤ 15 → ∀ r k, (chain B y j).2 (ix2 r k) = (N.pre (16 * p + j) (N.Y (16 * p + j) r) k : EReal)) := by
  intro j
  induction j with
  | zero => exact fun _ _ => ⟨fun r i => hy r i, fun _ r k => aStart_eq H y r _ (hy r) k⟩
  | succ j ih =>
    intro h1 h2
    obtain ⟨hY, hA⟩ := ih (by omega) (by omega)
    have hA := hA (by omega)
    refine ⟨fun r i => ?_, fun h3 r k => ?_⟩
    · exact yStep_eq H ⟨j, by omega⟩ (by show 16 * p + j < 511; omega) _ _ r _ (hY r) (hA r) i
    · exact aStep_eq H ⟨j, by omega⟩ (by show 16 * p + j < 511; omega) _ r _ (hA r) k

/-- Row j of the block's output is the recurrence's state before step 16 p + j, and the state the block leaves is the
    one the next block starts from. -/
theorem outBlk_eq (H : BlkIs N p B) (hp : p < 32) (y : FVec Ideal S1024x64 .f32) (hy : ∀ r i, y (ix2 r i) = (N.Y (16 * p) r i : EReal))
    (x : S16x1024x64.Idx) : outBlk B y x = (N.Y (16 * p + (x 0).val) (x 1) (x 2) : EReal) := by
  have h0 : (x 0).val < 16 := (x 0).isLt
  exact (chain_eq H y hy (x 0).val (by omega) (by omega)).1 (x 1) (x 2)

theorem last_eq (H : BlkIs N p B) (hp : p < 31) (y : FVec Ideal S1024x64 .f32) (hy : ∀ r i, y (ix2 r i) = (N.Y (16 * p) r i : EReal))
    (r : Fin 1024) (i : Fin 64) : (chain B y 16).1 (ix2 r i) = (N.Y (16 * (p + 1)) r i : EReal) :=
  (chain_eq H y hy 16 le_rfl (by omega)).1 r i

end Cert.Proof

end
-- ==== Proof.Block.lean ====
/-
  Where the windows hold the weights as the kernel's host part lays them out and the noise's rows of a block, what the
  block's steps read is the recurrence's data.
-/
module

public import proofs.«01_k».proof.Proof.PayReads
public import proofs.«01_k».proof.Proof.ChainValue

@[expose] public section

noncomputable section

namespace Cert.Proof

open Cert.KernelIdeal Cert.KernelIdeal.Gen
open Idealize.ShloMosaic
open scoped BigOperators

/-- What the windows of the weights hold, from the arguments. -/
structure WinIs (A : Args) (X2 : Vec Ideal S64x128 .bf16) (X3 : Vec Ideal S1x128 .f32) (X4 : Vec Ideal S1x128 .f32)
    (X5 : Vec Ideal S128x64 .bf16) (X6 : Vec Ideal S1x64 .f32) (X7 : Vec Ideal S64x128 .bf16) (X8 : Vec Ideal S128x64 .bf16)
    (X9 : Vec Ideal S128x128 .bf16) (X10 : Vec Ideal S1x32 .f32) (X11 : Vec Ideal S1x32 .f32) (X12 : Vec Ideal S32x64 .f32)
    (X13 : Vec Ideal S1x64 .f32) (X14 : Vec Ideal S1x1 .f32) (X15 : Vec Ideal S1x1 .f32) : Prop where
  w1 : ∀ (i : Fin 64) (k : Fin 128), X2 (ix2 i k) = A.wp1 (ix2 i.castSucc k)
  wt : ∀ k : Fin 128, X3 (ix2 0 k) = A.wp1 (ix2 (Fin.last 64) k)
  b1 : ∀ k : Fin 128, X4 (ix2 0 k) = A.bp1 (ix1 k)
  w2 : ∀ (k : Fin 128) (m : Fin 64), X5 (ix2 k m) = A.wp2 (ix2 k m)
  b2 : ∀ m : Fin 64, X6 (ix2 0 m) = A.bp2 (ix1 m)
  w2t : ∀ (m : Fin 64) (k : Fin 128), X7 (ix2 m k) = A.wp2 (ix2 k m) * A.wp3 (ix2 m 0)
  w1t : ∀ (k : Fin 128) (i : Fin 64), X8 (ix2 k i) = A.wp1 (ix2 i.castSucc k)
  w1w1 : ∀ l k : Fin 128, X9 (ix2 l k) = ∑ i : Fin 64, A.wp1 (ix2 i.castSucc l) * A.wp1 (ix2 i.castSucc k)
  wd1 : ∀ l : Fin 32, X10 (ix2 0 l) = A.wd1 (ix2 0 l)
  bd1 : ∀ l : Fin 32, X11 (ix2 0 l) = A.bd1 (ix1 l)
  wd2 : ∀ (l : Fin 32) (n : Fin 64), X12 (ix2 l n) = A.wd2 (ix2 l n)
  bd2 : ∀ n : Fin 64, X13 (ix2 0 n) = A.bd2 (ix1 n)
  mn : X14 (ix2 0 0) = A.mn ix0
  mx : X15 (ix2 0 0) = A.mx ix0

variable {A : Args} {i : grid0.Coords} {X0 : Vec Ideal S16x1024x64 .f32} {X2 : Vec Ideal S64x128 .bf16} {X3 : Vec Ideal S1x128 .f32} {X4 : Vec Ideal S1x128 .f32}
    {X5 : Vec Ideal S128x64 .bf16} {X6 : Vec Ideal S1x64 .f32} {X7 : Vec Ideal S64x128 .bf16} {X8 : Vec Ideal S128x64 .bf16}
    {X9 : Vec Ideal S128x128 .bf16} {X10 : Vec Ideal S1x32 .f32} {X11 : Vec Ideal S1x32 .f32} {X12 : Vec Ideal S32x64 .f32}
    {X13 : Vec Ideal S1x64 .f32} {X14 : Vec Ideal S1x1 .f32} {X15 : Vec Ideal S1x1 .f32}

/-- The diffusion factors of a block. -/
theorem sig_eq (G : A.Good) (W : WinIs A X2 X3 X4 X5 X6 X7 X8 X9 X10 X11 X12 X13 X14 X15) (j : Fin 16) (n : Fin 64) :
    k0_pay10 (k0_pay6 i) (k0_pay7 X14) (k0_pay8 X15) (k0_pay9 i X10 X11 X12) X13 (ix2 j n)
      = (A.net.amp (16 * (i 0).val + j.val) n : EReal) := by
  have hr : k0_pay6 (F := Ideal) i (ix2 j 0) = (Real.sqrt (len (16 * (i 0).val + j.val)) : EReal) := by
    rw [← sqrt_len, ← pay5_apply]; rfl
  rw [pay10_apply, pay9_apply, pay4_apply, hr, W.bd2, W.mn, W.mx]
  simp only [W.wd1, W.bd1, W.wd2]
  show A.diffusion (time (16 * (i 0).val + j.val) : EReal) n * _ = _
  rw [G.e_sig, ← EReal.coe_mul]
  rfl

theorem row64_emb (j : Fin 16) (r : Fin 1024) (n : Fin 64) : (row64 j.val).emb (ix3 0 r n) = ix3 j r n := by
  funext a
  have hj : j.val % 16 = j.val := Nat.mod_eq_of_lt j.isLt
  fin_cases a
  · exact Fin.ext (by show j.val % 16 + 1 * 0 = j.val; omega)
  · exact Fin.ext (by show 0 + 1 * r.val = r.val; omega)
  · exact Fin.ext (by show 0 + 1 * n.val = n.val; omega)

theorem row128_emb (j : Fin 16) (r : Fin 1024) (n : Fin 128) : (row128 j.val).emb (ix3 0 r n) = ix3 j r n := by
  funext a
  have hj : j.val % 16 = j.val := Nat.mod_eq_of_lt j.isLt
  fin_cases a
  · exact Fin.ext (by show j.val % 16 + 1 * 0 = j.val; omega)
  · exact Fin.ext (by show 0 + 1 * r.val = r.val; omega)
  · exact Fin.ext (by show 0 + 1 * n.val = n.val; omega)

/-- What a block's steps read is the recurrence's data. -/
theorem blkOf_is (G : A.Good) (W : WinIs A X2 X3 X4 X5 X6 X7 X8 X9 X10 X11 X12 X13 X14 X15)
    (hn : ∀ (j : Fin 16) (r : Fin 1024) (n : Fin 64) (h : 16 * (i 0).val + j.val < 511),
      X0 (ix3 j r n) = A.noise (ix3 ⟨16 * (i 0).val + j.val, h⟩ r n)) :
    BlkIs A.net (i 0).val (blkOf i X0 X2 X3 X4 X5 X6 X7 X8 X9 X10 X11 X12 X13 X14 X15) where
  hs j := pay5_apply i j
  sig j n := sig_eq G W j n
  w1y n k := (pay12_apply X2 n k).trans ((W.w1 n k).trans (G.e_wp1 _ _))
  w2 k m := by
    show k0_pay13 X5 (ix2 k m) = _
    pointwise [k0_pay13]
    rw [W.w2, G.e_wp2]
  b2 m := by
    show k0_pay14 X6 (ix2 0 m) = _
    pointwise [k0_pay14]
    exact W.b2 m
  w2t m k := by
    show k0_pay15 X7 (ix2 m k) = _
    pointwise [k0_pay15]
    rw [W.w2t, G.e_wp2, G.e_wp3, ← EReal.coe_mul]
  w1yt k n := by
    show k0_pay16 X8 (ix2 k n) = _
    pointwise [k0_pay16]
    rw [W.w1t, G.e_wp1]
  pm l k := by
    show k0_pay17 X9 (ix2 l k) = _
    pointwise [k0_pay17]
    rw [W.w1w1]
    simp only [G.e_wp1, ← EReal.coe_mul, ← coe_sum]
  c1 j k := by
    show k0_pay11 (k0_pay4 i) X3 X4 (ix2 j k) = _
    rw [pay11_apply, pay4_apply, W.wt, W.b1, G.e_wp1, G.e_bp1, ← EReal.coe_mul, ← EReal.coe_add]
  noise j r n h := by
    show X0 ((row64 j.val).emb (ix3 0 r n)) = _
    rw [row64_emb, hn j r n h, G.e_noise]
  u j r k h := by
    show uOf i X0 X2 X10 X11 X12 X13 X14 X15 ((row128 j.val).emb (ix3 0 r k)) = _
    rw [row128_emb]
    show k0_pay18 _ (k0_pay12 X2) X0 (ix3 j r k) = _
    rw [pay18_apply]
    simp only [sig_eq G W, pay12_apply, W.w1, G.e_wp1, fun n => hn j r n h, G.e_noise, ← EReal.coe_mul, ← coe_sum]

end Cert.Proof

end
-- ==== Proof.KernelBlock.lean ====
/-
  The kernel's body over the extended reals: where its windows hold the recurrence's data and the carried state is the
  recurrence's before the block, it leaves the recurrence's states in the output block and carries the next block's.
-/
module

public import proofs.«01_k».proof.Proof.Block

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open scoped BigOperators

local notation "𝕄" => MT nD τ sig Unit (Elt Ideal) ℕ (UR sig nD τ) ℕ

/-- The printed condition holds at the first grid point alone. -/
theorem isFirst_iff (i : grid0.Coords) : IsFirst i ↔ (i 0).val = 0 := by
  have h : ∀ n : Fin 32, (Scalar.cmpi .ne (Scalar.extui (Scalar.cmpi .eq (BitVec.ofNat 32 n.val) 0#32) : BitVec 32) 0#32 = 1#1) ↔ n.val = 0 := by
    decide +kernel
  exact h (i 0)

theorem pay2_apply (X : FVec Ideal S1024x64 .f32) (r : Fin 1024) (n : Fin 64) : k0_pay2 X (ix2 r n) = X (ix2 r n) := by
  pointwise [k0_pay2]

/-- The body at any grid point. -/
theorem runBlock (A : Args) (G : A.Good) (c : Dev nD) (i : grid0.Coords)
    (M0 : Memref sig .tc .vmem S16x1024x64 .f32) (h0 : M0.IsWhole) (f0 : Bf (F := Ideal) c M0)
    (M1 : Memref sig .tc .vmem S1024x64 .f32) (h1 : M1.IsWhole) (f1 : Bf (F := Ideal) c M1)
    (M2 : Memref sig .tc .vmem S64x128 .bf16) (h2 : M2.IsWhole) (f2 : Bf (F := Ideal) c M2)
    (M3 : Memref sig .tc .vmem S1x128 .f32) (h3 : M3.IsWhole) (f3 : Bf (F := Ideal) c M3)
    (M4 : Memref sig .tc .vmem S1x128 .f32) (h4 : M4.IsWhole) (f4 : Bf (F := Ideal) c M4)
    (M5 : Memref sig .tc .vmem S128x64 .bf16) (h5 : M5.IsWhole) (f5 : Bf (F := Ideal) c M5)
    (M6 : Memref sig .tc .vmem S1x64 .f32) (h6 : M6.IsWhole) (f6 : Bf (F := Ideal) c M6)
    (M7 : Memref sig .tc .vmem S64x128 .bf16) (h7 : M7.IsWhole) (f7 : Bf (F := Ideal) c M7)
    (M8 : Memref sig .tc .vmem S128x64 .bf16) (h8 : M8.IsWhole) (f8 : Bf (F := Ideal) c M8)
    (M9 : Memref sig .tc .vmem S128x128 .bf16) (h9 : M9.IsWhole) (f9 : Bf (F := Ideal) c M9)
    (M10 : Memref sig .tc .vmem S1x32 .f32) (h10 : M10.IsWhole) (f10 : Bf (F := Ideal) c M10)
    (M11 : Memref sig .tc .vmem S1x32 .f32) (h11 : M11.IsWhole) (f11 : Bf (F := Ideal) c M11)
    (M12 : Memref sig .tc .vmem S32x64 .f32) (h12 : M12.IsWhole) (f12 : Bf (F := Ideal) c M12)
    (M13 : Memref sig .tc .vmem S1x64 .f32) (h13 : M13.IsWhole) (f13 : Bf (F := Ideal) c M13)
    (M14 : Memref sig .tc .vmem S1x1 .f32) (h14 : M14.IsWhole) (f14 : Bf (F := Ideal) c M14)
    (M15 : Memref sig .tc .vmem S1x1 .f32) (h15 : M15.IsWhole) (f15 : Bf (F := Ideal) c M15)
    (M16 : Memref sig .tc .vmem S16x1024x64 .f32) (h16 : M16.IsWhole) (f16 : Bf (F := Ideal) c M16)
    (M17 : Memref sig .tc .vmem S1024x64 .f32) (h17 : M17.IsWhole) (f17 : Bf (F := Ideal) c M17)
    (M18 : Memref sig .tc .vmem S16x1024x128 .f32) (h18 : M18.IsWhole) (f18 : Bf (F := Ideal) c M18)
    (W : WinIs A (M2.view.read (Elt Ideal) f2) (M3.view.read (Elt Ideal) f3) (M4.view.read (Elt Ideal) f4) (M5.view.read (Elt Ideal) f5) (M6.view.read (Elt Ideal) f6) (M7.view.read (Elt Ideal) f7) (M8.view.read (Elt Ideal) f8) (M9.view.read (Elt Ideal) f9) (M10.view.read (Elt Ideal) f10) (M11.view.read (Elt Ideal) f11) (M12.view.read (Elt Ideal) f12) (M13.view.read (Elt Ideal) f13) (M14.view.read (Elt Ideal) f14) (M15.view.read (Elt Ideal) f15))
    (hn : ∀ (j : Fin 16) (r : Fin 1024) (n : Fin 64) (h : 16 * (i 0).val + j.val < 511),
      (M0.view.read (Elt Ideal) f0) (ix3 j r n) = A.noise (ix3 ⟨16 * (i 0).val + j.val, h⟩ r n))
    (hs : ∀ (r : Fin 1024) (n : Fin 64), (M1.view.read (Elt Ideal) f1) (ix2 r n) = A.start (ix2 r n))
    (hy : (i 0).val ≠ 0 → ∀ (r : Fin 1024) (n : Fin 64), (M17.view.read (Elt Ideal) f17) (ix2 r n) = (A.net.Y (16 * (i 0).val) r n : EReal))
    (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18
        ∗ (iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
            ∗ (∃ g, ⌜∀ x, M16.view.read (Elt Ideal) g x = (A.net.Y (16 * (i 0).val + (x 0).val) (x 1) (x 2) : EReal)⌝ ∗ pt c M16 g)
            ∗ (∃ g, ⌜(i 0).val < 31 → ∀ (r : Fin 1024) (n : Fin 64), M17.view.read (Elt Ideal) g (ix2 r n) = (A.net.Y (16 * ((i 0).val + 1)) r n : EReal)⌝ ∗ pt c M17 g)
            ∗ (∃ g, pt c M18 g)) -∗ Q ⟨⟩))
      ⊢ wp frame (wpE (defs₀ (F := Ideal)) Variants.none c none) Set.univ
          (cc0_langevin_sde i M0 h0 M1 h1 M2 h2 M3 h3 M4 h4 M5 h5 M6 h6 M7 h7 M8 h8 M9 h9 M10 h10 M11 h11 M12 h12 M13 h13 M14 h14 M15 h15 M16 h16 M17 h17 M18 h18) Q := by
  have B := blkOf_is (i := i) G W hn
  have hp : (i 0).val < 32 := (i 0).isLt
  iintro ⟨H0, H1, H2, H3, H4, H5, H6, H7, H8, H9, H10, H11, H12, H13, H14, H15, H16, H17, H18, Hk⟩
  by_cases hc : IsFirst i
  · have hz := (isFirst_iff i).1 hc
    have hy0 : ∀ (r : Fin 1024) (n : Fin 64), k0_pay2 (M1.view.read (Elt Ideal) f1) (ix2 r n) = (A.net.Y (16 * (i 0).val) r n : EReal) := by
      intro r n
      rw [pay2_apply, hs, A.e_start, hz]
      rfl
    iapply (runFirst c i hc M0 h0 f0 M1 h1 f1 M2 h2 f2 M3 h3 f3 M4 h4 f4 M5 h5 f5 M6 h6 f6 M7 h7 f7 M8 h8 f8 M9 h9 f9 M10 h10 f10 M11 h11 f11 M12 h12 f12 M13 h13 f13 M14 h14 f14 M15 h15 f15 M16 h16 f16 M17 h17 f17 M18 h18 f18 Q)
    iframe
    iintro ⟨H0, H1, H2, H3, H4, H5, H6, H7, H8, H9, H10, H11, H12, H13, H14, H15, ⟨%g16, %e16, H16⟩, ⟨%g17, %e17, H17⟩, H18⟩
    iapply Hk
    iframe
    isplitl [H16]
    · iexists g16
      isplitr; swap; · iexact H16
      ipureintro
      intro x
      rw [e16]
      exact outBlk_eq B hp _ hy0 x
    iexists g17
    isplitr; swap; · iexact H17
    ipureintro
    intro hp' r n
    rw [e17]
    exact last_eq B hp' _ hy0 r n
  · have hy1 := hy fun e => hc ((isFirst_iff i).2 e)
    iapply (runLater c i hc M0 h0 f0 M1 h1 f1 M2 h2 f2 M3 h3 f3 M4 h4 f4 M5 h5 f5 M6 h6 f6 M7 h7 f7 M8 h8 f8 M9 h9 f9 M10 h10 f10 M11 h11 f11 M12 h12 f12 M13 h13 f13 M14 h14 f14 M15 h15 f15 M16 h16 f16 M17 h17 f17 M18 h18 f18 Q)
    iframe
    iintro ⟨H0, H1, H2, H3, H4, H5, H6, H7, H8, H9, H10, H11, H12, H13, H14, H15, ⟨%g16, %e16, H16⟩, ⟨%g17, %e17, H17⟩, H18⟩
    iapply Hk
    iframe
    isplitl [H16]
    · iexists g16
      isplitr; swap; · iexact H16
      ipureintro
      intro x
      rw [e16]
      exact outBlk_eq B hp _ hy1 x
    iexists g17
    isplitr; swap; · iexact H17
    ipureintro
    intro hp' r n
    rw [e17]
    exact last_eq B hp' _ hy1 r n

end Cert.Proof

end
-- ==== Proof.RefReads.lean ====
/-
  The values of one trip of the reference's loop read at an index over the extended reals.
-/
module

public import proofs.«01_k».proof.Proof.Gen.ReferenceIdeal.Step
public import Idealize.ShloMosaic.Lib.Pointwise
public import Idealize.ShloMosaic.Lib.WordCmp
public import Idealize.ShloMosaic.PureOps.Ideal.Laws
public import proofs.«01_k».proof.Proof.Data

@[expose] public section

noncomputable section

namespace Cert.Proof

open Cert.ReferenceIdeal Cert.ReferenceIdeal.Step
open Idealize.ShloMosaic
open scoped BigOperators

variable (j : ℕ) (s : State Ideal)

/-- A trip's number read as an integer start. -/
theorem start_val (hj : j < 511) : (BitVec.ofNat 32 j).toInt = (j : Int) := by
  rw [BitVec.toInt_eq_toNat_of_lt] <;> rw [BitVec.toNat_ofNat, Nat.mod_eq_of_lt (by omega)]
  omega

theorem starts3 (hj : j < 511) (a : Fin 3) :
    ((![(constantI S_ 32 (BitVec.ofNat 32 j) : (⟨S_, .i32⟩ : BufTy).Contents (Elt Ideal)), constantI S_ 32 0#32, constantI S_ 32 0#32] :
      Fin 3 → (⟨S_, .i32⟩ : BufTy).Contents (Elt Ideal)) a (Shape.Idx.first Gen.h_S_)).toInt = ((![j, 0, 0] : Fin 3 → ℕ) a : Int) := by
  match a with
  | 0 => exact start_val j hj
  | 1 => rfl
  | 2 => rfl

theorem starts1 (hj : j < 511) (a : Fin 1) :
    ((![(constantI S_ 32 (BitVec.ofNat 32 j) : (⟨S_, .i32⟩ : BufTy).Contents (Elt Ideal))] :
      Fin 1 → (⟨S_, .i32⟩ : BufTy).Contents (Elt Ideal)) a (Shape.Idx.first Gen.h_S_)).toInt = ((![j] : Fin 1 → ℕ) a : Int) := by
  match a with
  | 0 => exact start_val j hj

theorem fits1 (hj : j < 511) : S511.Slices ![j] S1 :=
  ⟨rfl, by intro a; fin_cases a; simp [S511, S1]; omega⟩
theorem fits3 (hj : j < 511) : S511x1024x64.Slices ![j, 0, 0] S1x1024x64 :=
  ⟨rfl, by intro a; fin_cases a <;> simp [S511x1024x64, S1x1024x64]; omega⟩

/-- The time before the step, and after it. -/
theorem b1_apply (hj : j < 511) : b1 j s ix0 = s.main_v12_0 (ix1 ⟨j, hj⟩) := by
  have e : b0 j s = extractStridedSlice S1 ![j] s.main_v12_0 (fits1 j hj) :=
    Idealize.ShloMosaic.WordCmp.dynamicSlice_eq_extract _ _ _ _ _ _ (starts1 j hj)
  unfold b1
  rw [e]
  pointwise
theorem b3_apply (hj : j < 511) : b3 j s ix0 = s.main_v12_1 (ix1 ⟨j, hj⟩) := by
  have e : b2 j s = extractStridedSlice S1 ![j] s.main_v12_1 (fits1 j hj) :=
    Idealize.ShloMosaic.WordCmp.dynamicSlice_eq_extract _ _ _ _ _ _ (starts1 j hj)
  unfold b3
  rw [e]
  pointwise
theorem b8_apply : b8 j s ix0 = b3 j s ix0 - b1 j s ix0 := by
  pointwise [b8]

/-- The step's noise. -/
theorem b7_apply (hj : j < 511) (r : Fin 1024) (i : Fin 64) : b7 j s (ix2 r i) = s.main_v12_2 (ix3 ⟨j, hj⟩ r i) := by
  have e : b6 j s = extractStridedSlice S1x1024x64 ![j, 0, 0] s.main_v12_2 (fits3 j hj) :=
    Idealize.ShloMosaic.WordCmp.dynamicSlice_eq_extract _ _ _ _ _ _ (starts3 j hj)
  unfold b7
  rw [e]
  pointwise

/-- The first layer's pre-activation. -/
theorem b19_apply (r : Fin 1024) (k : Fin 128) : b19 j s (ix2 r k) =
    (∑ i : Fin 64, s.main_v12_16 (ix2 r i) * s.main_v12_3 (ix2 i.castSucc k)) + b1 j s ix0 * s.main_v12_3 (ix2 (Fin.last 64) k)
      + s.main_v12_4 (ix1 k) := by
  have e : ∀ (x : Fin 64) (h : x.val < 65), (⟨x.val, h⟩ : Fin 65) = x.castSucc := fun x h => rfl
  have e' : (64 : Fin 65) = Fin.last 64 := rfl
  pointwise [b19, b18, b17, b16, b13, b12, b11, b10, b9]
  simp only [e, e', Finset.univ_unique, Finset.sum_singleton]

theorem b20_apply (r : Fin 1024) (k : Fin 128) : b20 j s (ix2 r k) = Ideal.tanh (b19 j s (ix2 r k)) := by
  pointwise [b20]
theorem b32_apply (r : Fin 1024) (m : Fin 64) : b32 j s (ix2 r m) =
    Ideal.tanh ((∑ k : Fin 128, b20 j s (ix2 r k) * s.main_v12_5 (ix2 k m)) + s.main_v12_6 (ix1 m)) := by
  pointwise [b32, b31, b30, b29, b28]

/-- The gradient at the first layer's pre-activation, and at the state. -/
theorem b51_apply (r : Fin 1024) (k : Fin 128) : b51 j s (ix2 r k) =
    (∑ m : Fin 64, (s.main_v12_7 (ix2 m 0) * ((1 + b32 j s (ix2 r m)) * (1 - b32 j s (ix2 r m)))) * s.main_v12_5 (ix2 k m))
      * ((1 + b20 j s (ix2 r k)) * (1 - b20 j s (ix2 r k))) := by
  pointwise [b51, b50, b49, b48, b47, b46, b39, b38, b37, b36, b35, b34, b33, b27, b26, b25, b24, b23, b22, b21]
  simp only [Finset.univ_unique, Finset.sum_singleton]
  rfl
theorem b53_apply (r : Fin 1024) (i : Fin 64) : b53 j s (ix2 r i) =
    ∑ k : Fin 128, b51 j s (ix2 r k) * s.main_v12_3 (ix2 i.castSucc k) := by
  have e : ∀ (h : i.val < 65), (⟨i.val, h⟩ : Fin 65) = i.castSucc := fun h => rfl
  pointwise [b53, b52]
  simp only [e]

/-- The diffusion network's output, and the diffusion. -/
theorem b68_apply (i : Fin 64) : b68 j s (ix2 0 i) =
    (∑ l : Fin 32, max (b1 j s ix0 * s.main_v12_9 (ix2 0 l) + s.main_v12_10 (ix1 l)) 0 * s.main_v12_11 (ix2 l i))
      + s.main_v12_12 (ix1 i) := by
  pointwise [b68, b67, b66, b65, b64, b63, b62, b61, b60, b59]
  simp only [Finset.univ_unique, Finset.sum_singleton]
  rfl
theorem b88_apply (i : Fin 64) : b88 j s (ix2 0 i) =
    min (s.main_v12_14 ix0) (max (s.main_v12_13 ix0) (soft (b68 j s (ix2 0 i)) + s.main_v12_13 ix0)) := by
  pointwise [b88, b87, b86, b85, b84, b83, b82, b81, b80, b79, b78, b77, b76, b75, b74, b73, b72, b71, b70, b69]
  simp [soft, mag, Ideal.absf_def]

/-- The state after the step. -/
theorem b94_apply (r : Fin 1024) (i : Fin 64) : b94 j s (ix2 r i) =
    s.main_v12_16 (ix2 r i) + -b53 j s (ix2 r i) * b8 j s ix0
      + b88 j s (ix2 0 i) * b7 j s (ix2 r i) * Ideal.sqrt (b8 j s ix0) := by
  pointwise [b94, b93, b92, b91, b90, b89, b58, b57, b56, b55]

/-- The trajectory after the step: its row is the state before the step. -/
theorem b98_apply (hj : j < 511) (a : Fin 511) (r : Fin 1024) (i : Fin 64) : b98 j s (ix3 a r i) =
    if a.val = j then s.main_v12_16 (ix2 r i) else s.main_v12_17 (ix3 a r i) := by
  have e : b98 j s = updateSlice s.main_v12_17 (b95 j s) ![j, 0, 0] (fits3 j hj) :=
    Idealize.ShloMosaic.WordCmp.dynamicUpdateSlice_eq_update _ _ _ _ _ _ (starts3 j hj)
  rw [e]
  pointwise [b95]
  by_cases h : a.val = j
  · rw [if_pos h, dif_pos ⟨by omega, by omega⟩]
  · rw [if_neg h, dif_neg (by omega)]

/-- What the reference returns, from the last state. -/
theorem R_apply (a : Fin 512) (r : Fin 1024) (i : Fin 64) : R_main_v15 s (ix3 r a i) =
    if h : a.val < 511 then s.main_v12_17 (ix3 ⟨a.val, h⟩ r i) else s.main_v12_16 (ix2 r i) := by
  pointwise [R_main_v15]

end Cert.Proof

end
-- ==== Proof.RefValue.lean ====
/-
  What the reference computes: before trip n its loop holds the recurrence's state before step n and the rows of the
  trajectory up to it, so what it returns is the recurrence's states in order.
-/
module

public import proofs.«01_k».proof.Proof.RefReads

@[expose] public section

noncomputable section

namespace Cert.Proof

open Cert.ReferenceIdeal Cert.ReferenceIdeal.Step
open Idealize.ShloMosaic
open scoped BigOperators

/-- The recurrence's data, from the programs' argument arrays. -/
def argsOf (a0 : FVec Ideal S1024x512x3 .f32) (a1 : FVec Ideal S511x1024x64 .f32) (a2 : FVec Ideal S65x128 .f32)
    (a3 : FVec Ideal S128 .f32) (a4 : FVec Ideal S128x64 .f32) (a5 : FVec Ideal S64 .f32) (a6 : FVec Ideal S64x1 .f32)
    (a8 : FVec Ideal S1x32 .f32) (a9 : FVec Ideal S32 .f32) (a10 : FVec Ideal S32x64 .f32) (a11 : FVec Ideal S64 .f32)
    (a12 : FVec Ideal S_ .f32) (a13 : FVec Ideal S_ .f32) : Args where
  times := fun x => a0 (ix3 0 (x 0) 0)
  noise := a1
  wp1 := a2
  bp1 := a3
  wp2 := a4
  bp2 := a5
  wp3 := a6
  wd1 := a8
  bd1 := a9
  wd2 := a10
  bd2 := a11
  mn := a12
  mx := a13
  start := A_main_v8 (F := Ideal) a0 a12 a13

/-- The loop's buffers before trip n. -/
structure StateIs (A : Args) (n : ℕ) (s : State Ideal) : Prop where
  y : ∀ (r : Fin 1024) (i : Fin 64), s.main_v12_16 (ix2 r i) = (A.net.Y n r i : EReal)
  traj : ∀ (a : Fin 511) (r : Fin 1024) (i : Fin 64), a.val < n → s.main_v12_17 (ix3 a r i) = (A.net.Y a.val r i : EReal)
  t0 : ∀ j : Fin 511, s.main_v12_0 (ix1 j) = (time j.val : EReal)
  t1 : ∀ j : Fin 511, s.main_v12_1 (ix1 j) = (time (j.val + 1) : EReal)
  noise : s.main_v12_2 = A.noise
  wp1 : s.main_v12_3 = A.wp1
  bp1 : s.main_v12_4 = A.bp1
  wp2 : s.main_v12_5 = A.wp2
  bp2 : s.main_v12_6 = A.bp2
  wp3 : s.main_v12_7 = A.wp3
  wd1 : s.main_v12_9 = A.wd1
  bd1 : s.main_v12_10 = A.bd1
  wd2 : s.main_v12_11 = A.wd2
  bd2 : s.main_v12_12 = A.bd2
  mn : s.main_v12_13 ix0 = mag (A.mn ix0)
  mx : s.main_v12_14 ix0 = mag (A.mx ix0)

variable {A : Args} {n : ℕ} {s : State Ideal}

section Trip
variable (G : A.Good) (H : StateIs A n s) (hn : n < 511)
include G H hn

theorem b1_eq : b1 n s ix0 = (time n : EReal) := by rw [b1_apply n s hn, H.t0]
theorem b8_eq : b8 n s ix0 = (len n : EReal) := by
  rw [b8_apply, b3_apply n s hn, b1_eq G H hn, H.t1, ← EReal.coe_sub]; rfl

theorem b19_eq (r : Fin 1024) (k : Fin 128) : b19 n s (ix2 r k) = (A.net.pre n (A.net.Y n r) k : EReal) := by
  rw [b19_apply, b1_eq G H hn, H.wp1, H.bp1]
  simp only [H.y, G.e_wp1, G.e_bp1]
  rw [add_assoc, ← EReal.coe_mul, ← EReal.coe_add]
  rfl

theorem b20_eq (r : Fin 1024) (k : Fin 128) : b20 n s (ix2 r k) = (th (A.net.pre n (A.net.Y n r) k) : EReal) := by
  rw [b20_apply, b19_eq G H hn, tanh_eq]

theorem b32_eq (r : Fin 1024) (m : Fin 64) : b32 n s (ix2 r m) = (A.net.hid (A.net.pre n (A.net.Y n r)) m : EReal) := by
  rw [b32_apply, H.wp2, H.bp2, tanh_eq]
  simp only [b20_eq G H hn, G.e_wp2, ← EReal.coe_mul, ← coe_sum]
  rfl

theorem b51_eq (r : Fin 1024) (k : Fin 128) : b51 n s (ix2 r k) = (A.net.grad (A.net.pre n (A.net.Y n r)) k : EReal) := by
  rw [b51_apply, H.wp2, H.wp3]
  simp only [b20_eq G H hn, b32_eq G H hn, G.e_wp2, G.e_wp3]
  show (∑ m : Fin 64, ((A.net.w3 m : EReal) * ((1 + (A.net.hid (A.net.pre n (A.net.Y n r)) m : EReal))
      * (1 - (A.net.hid (A.net.pre n (A.net.Y n r)) m : EReal)))) * (A.net.w2 k m : EReal))
    * ((1 + (th (A.net.pre n (A.net.Y n r) k) : EReal)) * (1 - (th (A.net.pre n (A.net.Y n r) k) : EReal))) = _
  simp only [← EReal.coe_one, ← EReal.coe_sub, ← EReal.coe_add, ← EReal.coe_mul, ← coe_sum]
  refine congrArg _ ?_
  unfold Net.grad
  refine congrArg₂ (· * ·) (Finset.sum_congr rfl fun m _ => ?_) ?_ <;> ring

theorem b53_eq (r : Fin 1024) (i : Fin 64) : b53 n s (ix2 r i) =
    ((∑ k : Fin 128, A.net.grad (A.net.pre n (A.net.Y n r)) k * A.net.w i.castSucc k : ℝ) : EReal) := by
  rw [b53_apply, H.wp1]
  simp only [b51_eq G H hn, G.e_wp1, ← EReal.coe_mul, ← coe_sum]

theorem b88_eq (i : Fin 64) : b88 n s (ix2 0 i) = (A.net.sig n i : EReal) := by
  rw [b88_apply, b68_apply, b1_eq G H hn, H.mn, H.mx, H.wd1, H.bd1, H.wd2, H.bd2, ← G.e_sig]
  rfl

theorem b94_eq (r : Fin 1024) (i : Fin 64) : b94 n s (ix2 r i) = (A.net.Y (n + 1) r i : EReal) := by
  rw [b94_apply, b53_eq G H hn, b8_eq G H hn, b88_eq G H hn, b7_apply n s hn, H.noise, G.e_noise n hn, H.y, sqrt_len]
  simp only [← EReal.coe_neg, ← EReal.coe_mul]
  show _ = A.net.next n r (A.net.Y n r) i
  unfold Net.next Net.amp Net.drop
  have e : (∑ k : Fin 128, (A.net.grad (A.net.pre n (A.net.Y n r)) k * len n) * A.net.w i.castSucc k)
      = (∑ k : Fin 128, A.net.grad (A.net.pre n (A.net.Y n r)) k * A.net.w i.castSucc k) * len n := by
    rw [Finset.sum_mul]
    exact Finset.sum_congr rfl fun k _ => by ring
  rw [e, sub_eq_add_neg, ← EReal.coe_neg, neg_mul, mul_right_comm (A.net.sig n i)]

/-- One trip goes from the recurrence's state before step n to the one before step n + 1. -/
theorem state_step : StateIs A (n + 1) (step n s) where
  y r i := by rw [step_main_v12_16]; exact b94_eq G H hn r i
  traj a r i ha := by
    rw [step_main_v12_17, b98_apply n s hn]
    by_cases h : a.val = n
    · rw [if_pos h, H.y, h]
    · rw [if_neg h, H.traj a r i (by omega)]
  t0 := H.t0
  t1 := H.t1
  noise := H.noise
  wp1 := H.wp1
  bp1 := H.bp1
  wp2 := H.wp2
  bp2 := H.bp2
  wp3 := H.wp3
  wd1 := H.wd1
  bd1 := H.bd1
  wd2 := H.wd2
  bd2 := H.bd2
  mn := H.mn
  mx := H.mx

end Trip

section Start
variable (a0 : FVec Ideal S1024x512x3 .f32) (a1 : FVec Ideal S511x1024x64 .f32) (a2 : FVec Ideal S65x128 .f32)
    (a3 : FVec Ideal S128 .f32) (a4 : FVec Ideal S128x64 .f32) (a5 : FVec Ideal S64 .f32) (a6 : FVec Ideal S64x1 .f32)
    (a7 : FVec Ideal S1 .f32)
    (a8 : FVec Ideal S1x32 .f32) (a9 : FVec Ideal S32 .f32) (a10 : FVec Ideal S32x64 .f32) (a11 : FVec Ideal S64 .f32)
    (a12 : FVec Ideal S_ .f32) (a13 : FVec Ideal S_ .f32)

theorem times0_apply (j : Fin 511) : A_main_v9 (F := Ideal) a0 a12 a13 (ix1 j) = a0 (ix3 0 j.castSucc 0) := by
  have e : ∀ (h : j.val < 512), (⟨j.val, h⟩ : Fin 512) = j.castSucc := fun h => rfl
  pointwise [A_main_v9, A_main_v1, A_main_v0]
  simp only [e]
theorem times1_apply (j : Fin 511) : A_main_v10 (F := Ideal) a0 a12 a13 (ix1 j) = a0 (ix3 0 j.succ 0) := by
  have e : ∀ (h : 1 + j.val < 512), (⟨1 + j.val, h⟩ : Fin 512) = j.succ := fun h => Fin.ext (Nat.add_comm _ _)
  pointwise [A_main_v10, A_main_v1, A_main_v0]
  simp only [e]
theorem mn_apply : A_main_v2 (F := Ideal) a0 a12 a13 ix0 = mag (a12 ix0) := by
  pointwise [A_main_v2]
  rfl
theorem mx_apply : A_main_v3 (F := Ideal) a0 a12 a13 ix0 = mag (a13 ix0) := by
  pointwise [A_main_v3]
  rfl

theorem state_init (G : (argsOf a0 a1 a2 a3 a4 a5 a6 a8 a9 a10 a11 a12 a13).Good) :
    StateIs (argsOf a0 a1 a2 a3 a4 a5 a6 a8 a9 a10 a11 a12 a13) 0 (init a1 a2 a3 a4 a5 a6 a7 a8 a9 a10 a11 a0 a12 a13) where
  y r i := (argsOf a0 a1 a2 a3 a4 a5 a6 a8 a9 a10 a11 a12 a13).e_start r i
  traj a r i ha := absurd ha (Nat.not_lt_zero _)
  t0 j := (times0_apply a0 a12 a13 j).trans (G.times j.castSucc)
  t1 j := (times1_apply a0 a12 a13 j).trans (G.times j.succ)
  noise := rfl
  wp1 := rfl
  bp1 := rfl
  wp2 := rfl
  bp2 := rfl
  wp3 := rfl
  wd1 := rfl
  bd1 := rfl
  wd2 := rfl
  bd2 := rfl
  mn := mn_apply a0 a12 a13
  mx := mx_apply a0 a12 a13

/-- The loop's states from the arguments. -/
def states : ℕ → State Ideal
  | 0 => init a1 a2 a3 a4 a5 a6 a7 a8 a9 a10 a11 a0 a12 a13
  | k + 1 => step k (states k)

theorem states_is (G : (argsOf a0 a1 a2 a3 a4 a5 a6 a8 a9 a10 a11 a12 a13).Good) (k : ℕ) (hk : k ≤ 511) :
    StateIs (argsOf a0 a1 a2 a3 a4 a5 a6 a8 a9 a10 a11 a12 a13) k (states a0 a1 a2 a3 a4 a5 a6 a7 a8 a9 a10 a11 a12 a13 k) := by
  induction k with
  | zero => exact state_init a0 a1 a2 a3 a4 a5 a6 a7 a8 a9 a10 a11 a12 a13 G
  | succ k ih => exact state_step G (ih (by omega)) (by omega)

/-- What the reference returns: the recurrence's states, row by row of the batch. -/
theorem result_eq (G : (argsOf a0 a1 a2 a3 a4 a5 a6 a8 a9 a10 a11 a12 a13).Good) (r : Fin 1024) (a : Fin 512) (i : Fin 64) :
    R_main_v15 (states a0 a1 a2 a3 a4 a5 a6 a7 a8 a9 a10 a11 a12 a13 511) (ix3 r a i)
      = ((argsOf a0 a1 a2 a3 a4 a5 a6 a8 a9 a10 a11 a12 a13).net.Y a.val r i : EReal) := by
  have H := states_is a0 a1 a2 a3 a4 a5 a6 a7 a8 a9 a10 a11 a12 a13 G 511 le_rfl
  rw [R_apply]
  by_cases h : a.val < 511
  · rw [dif_pos h, H.traj ⟨a.val, h⟩ r i h]
  · rw [dif_neg h, H.y]
    have : a.val = 511 := by have := a.isLt; omega
    rw [this]

end Start

end Cert.Proof

end
-- ==== Proof.HostValues.lean ====
/-
  What the kernel's host part leaves in the arrays the kernel's windows are on, read at an index.
-/
module

public import proofs.«01_k».proof.Proof.Block
public import proofs.«01_k».proof.Proof.RefValue
public import proofs.«01_k».proof.Proof.Gen.KernelIdeal.Frame

@[expose] public section

noncomputable section

namespace Cert.Proof.HostValues

open Cert.KernelIdeal Cert.KernelIdeal.Gen
open Idealize.ShloMosaic Idealize.ShloMosaic.TcCoe
open Idealize.SL Idealize.SL.Sem
open scoped BigOperators

variable (m : (ℓ : Loc nD τ sig) → Buf (Elt Ideal) ℓ) (c : Dev nD)

/-- The recurrence's data, from the kernel's argument arrays. -/
def args : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13))

theorem at_v13 : V m c main_v13 = (truncf .bf16 (extractStridedSlice S64x128 ![0, 0] (m ((c : Thread nD τ).loc main_arg2)) slices_S65x128_S64x128_0_0 : FVec Ideal S64x128 .f32) bitsLt_bf16_f32 : FVec Ideal S64x128 .bf16) := by
  simp only [V, V0, hostOps0, List.flatten_cons, List.flatten_nil, List.append_nil, List.cons_append, List.nil_append]
  after_results_simp

theorem v13 (i : Fin 64) (k : Fin 128) : V m c main_v13 (ix2 i k) = (args m c).wp1 (ix2 i.castSucc k) := by
  rw [at_v13]
  pointwise
  rfl

theorem at_v1 : V m c main_v1 = (extractStridedSlice S1x128 ![64, 0] (m ((c : Thread nD τ).loc main_arg2)) slices_S65x128_S1x128_64_0 : FVec Ideal S1x128 .f32) := by
  simp only [V, V0, hostOps0, List.flatten_cons, List.flatten_nil, List.append_nil, List.cons_append, List.nil_append]
  after_results_simp

theorem v1 (k : Fin 128) : V m c main_v1 (ix2 0 k) = (args m c).wp1 (ix2 (Fin.last 64) k) := by
  rw [at_v1]
  pointwise
  rfl

theorem at_v2 : V m c main_v2 = (shapeCast S1x128 (m ((c : Thread nD τ).loc main_arg3)) shapeCasts_S128_S1x128 : FVec Ideal S1x128 .f32) := by
  simp only [V, V0, hostOps0, List.flatten_cons, List.flatten_nil, List.append_nil, List.cons_append, List.nil_append]
  after_results_simp
  rfl

theorem v2 (k : Fin 128) : V m c main_v2 (ix2 0 k) = (args m c).bp1 (ix1 k) := by
  rw [at_v2]
  pointwise
  rfl

theorem at_v12 : V m c main_v12 = (truncf .bf16 ((m ((c : Thread nD τ).loc main_arg4)) : FVec Ideal S128x64 .f32) bitsLt_bf16_f32 : FVec Ideal S128x64 .bf16) := by
  simp only [V, V0, hostOps0, List.flatten_cons, List.flatten_nil, List.append_nil, List.cons_append, List.nil_append]
  after_results_simp

theorem v12 (k : Fin 128) (l : Fin 64) : V m c main_v12 (ix2 k l) = (args m c).wp2 (ix2 k l) := by
  rw [at_v12]
  pointwise
  rfl

theorem at_v3 : V m c main_v3 = (shapeCast S1x64 (m ((c : Thread nD τ).loc main_arg5)) shapeCasts_S64_S1x64 : FVec Ideal S1x64 .f32) := by
  simp only [V, V0, hostOps0, List.flatten_cons, List.flatten_nil, List.append_nil, List.cons_append, List.nil_append]
  after_results_simp
  rfl

theorem v3 (l : Fin 64) : V m c main_v3 (ix2 0 l) = (args m c).bp2 (ix1 l) := by
  rw [at_v3]
  pointwise
  rfl

theorem at_v9 : V m c main_v9 = (truncf .bf16 (mulf (transpose S64x128 [1, 0] (m ((c : Thread nD τ).loc main_arg4)) transposes_S128x64_S64x128_1_0 : FVec Ideal S64x128 .f32) (broadcastInDim S64x128 ![0, 1] bcast_S64x1_S64x128_0_1 (broadcastInDim S64x1 ![0] bcast_S64_S64x1_0 (shapeCast S64 (m ((c : Thread nD τ).loc main_arg6)) shapeCasts_S64x1_S64)))) bitsLt_bf16_f32 : FVec Ideal S64x128 .bf16) := by
  simp only [V, V0, hostOps0, List.flatten_cons, List.flatten_nil, List.append_nil, List.cons_append, List.nil_append]
  after_results_simp
  rfl

theorem v9 (l : Fin 64) (k : Fin 128) : V m c main_v9 (ix2 l k) = (args m c).wp2 (ix2 k l) * (args m c).wp3 (ix2 l 0) := by
  rw [at_v9]
  pointwise
  rfl

theorem at_v11 : V m c main_v11 = (truncf .bf16 (transpose S128x64 [1, 0] (extractStridedSlice S64x128 ![0, 0] (m ((c : Thread nD τ).loc main_arg2)) slices_S65x128_S64x128_0_0 : FVec Ideal S64x128 .f32) transposes_S64x128_S128x64_1_0 : FVec Ideal S128x64 .f32) bitsLt_bf16_f32 : FVec Ideal S128x64 .bf16) := by
  simp only [V, V0, hostOps0, List.flatten_cons, List.flatten_nil, List.append_nil, List.cons_append, List.nil_append]
  after_results_simp

theorem v11 (k : Fin 128) (i : Fin 64) : V m c main_v11 (ix2 k i) = (args m c).wp1 (ix2 i.castSucc k) := by
  rw [at_v11]
  pointwise
  rfl

theorem at_v16 : V m c main_v16 = (truncf .bf16 (Host.dotGeneral dot_S128x64_S64x128_S128x128_1_0_0_1_n_n none (transpose S128x64 [1, 0] (extractStridedSlice S64x128 ![0, 0] (m ((c : Thread nD τ).loc main_arg2)) slices_S65x128_S64x128_0_0 : FVec Ideal S64x128 .f32) transposes_S64x128_S128x64_1_0 : FVec Ideal S128x64 .f32) (extractStridedSlice S64x128 ![0, 0] (m ((c : Thread nD τ).loc main_arg2)) slices_S65x128_S64x128_0_0 : FVec Ideal S64x128 .f32) : FVec Ideal S128x128 .f32) bitsLt_bf16_f32 : FVec Ideal S128x128 .bf16) := by
  simp only [V, V0, hostOps0, List.flatten_cons, List.flatten_nil, List.append_nil, List.cons_append, List.nil_append]
  after_results_simp

theorem v16 (l k : Fin 128) : V m c main_v16 (ix2 l k) = ∑ i : Fin 64, (args m c).wp1 (ix2 i.castSucc l) * (args m c).wp1 (ix2 i.castSucc k) := by
  rw [at_v16]
  pointwise
  rfl

theorem at_v17 : V m c main_v17 = (shapeCast S1x32 (m ((c : Thread nD τ).loc main_arg9)) shapeCasts_S32_S1x32 : FVec Ideal S1x32 .f32) := by
  simp only [V, V0, hostOps0, List.flatten_cons, List.flatten_nil, List.append_nil, List.cons_append, List.nil_append]
  after_results_simp
  rfl

theorem v17 (l : Fin 32) : V m c main_v17 (ix2 0 l) = (args m c).bd1 (ix1 l) := by
  rw [at_v17]
  pointwise
  rfl

theorem at_v18 : V m c main_v18 = (shapeCast S1x64 (m ((c : Thread nD τ).loc main_arg11)) shapeCasts_S64_S1x64 : FVec Ideal S1x64 .f32) := by
  simp only [V, V0, hostOps0, List.flatten_cons, List.flatten_nil, List.append_nil, List.cons_append, List.nil_append]
  after_results_simp
  rfl

theorem v18 (n : Fin 64) : V m c main_v18 (ix2 0 n) = (args m c).bd2 (ix1 n) := by
  rw [at_v18]
  pointwise
  rfl

theorem at_v19 : V m c main_v19 = (shapeCast S1x1 (m ((c : Thread nD τ).loc main_arg12)) shapeCasts_S_S1x1 : FVec Ideal S1x1 .f32) := by
  simp only [V, V0, hostOps0, List.flatten_cons, List.flatten_nil, List.append_nil, List.cons_append, List.nil_append]
  after_results_simp
  rfl

theorem v19  : V m c main_v19 (ix2 0 0) = (args m c).mn ix0 := by
  rw [at_v19]
  pointwise
  rfl

theorem at_v20 : V m c main_v20 = (shapeCast S1x1 (m ((c : Thread nD τ).loc main_arg13)) shapeCasts_S_S1x1 : FVec Ideal S1x1 .f32) := by
  simp only [V, V0, hostOps0, List.flatten_cons, List.flatten_nil, List.append_nil, List.cons_append, List.nil_append]
  after_results_simp
  rfl

theorem v20  : V m c main_v20 (ix2 0 0) = (args m c).mx ix0 := by
  rw [at_v20]
  pointwise
  rfl

/-- The state the kernel starts from. -/
def startOf (a0 : FVec Ideal S1024x512x3 .f32) : FVec Ideal S1024x64 .f32 :=
  Host.scatter scatter_S1024x64_S1_S1024x3_01_n_1_0 (fun _ b => b)
    (broadcastInDim S1024x64 ![] bcast_S_S1024x64 (constant S_ .f32 0x00000000#32))
    (broadcastInDim S1 ![] bcast_S_S1 (constantI S_ 32 0#32))
    (shapeCast S1024x3 (extractStridedSlice S1024x1x3 ![0, 0, 0] a0 slices_S1024x512x3_S1024x1x3_0_0_0) shapeCasts_S1024x1x3_S1024x3)

theorem at_v25 : V m c main_v25 = startOf (m ((c : Thread nD τ).loc main_arg0)) := by
  simp only [V, V0, hostOps0, List.flatten_cons, List.flatten_nil, List.append_nil, List.cons_append, List.nil_append]
  after_results_simp
  unfold startOf
  rfl

/-- It is the one the reference starts from. -/
theorem startOf_eq (a0 : FVec Ideal S1024x512x3 .f32) (a12 a13 : FVec Ideal S_ .f32) :
    startOf a0 = Cert.ReferenceIdeal.Step.A_main_v8 (F := Ideal) a0 a12 a13 := by
  unfold startOf Cert.ReferenceIdeal.Step.A_main_v8
  congr 1

theorem argsOf_start (a0 : FVec Ideal S1024x512x3 .f32) (a1 : FVec Ideal S511x1024x64 .f32) (a2 : FVec Ideal S65x128 .f32)
    (a3 : FVec Ideal S128 .f32) (a4 : FVec Ideal S128x64 .f32) (a5 : FVec Ideal S64 .f32) (a6 : FVec Ideal S64x1 .f32)
    (a8 : FVec Ideal S1x32 .f32) (a9 : FVec Ideal S32 .f32) (a10 : FVec Ideal S32x64 .f32) (a11 : FVec Ideal S64 .f32)
    (a12 : FVec Ideal S_ .f32) (a13 : FVec Ideal S_ .f32) :
    (argsOf a0 a1 a2 a3 a4 a5 a6 a8 a9 a10 a11 a12 a13).start = startOf a0 := by
  rw [startOf_eq a0 a12 a13]
  unfold argsOf
  dsimp only

theorem args_start : (args m c).start = startOf (m ((c : Thread nD τ).loc main_arg0)) := by
  unfold args
  exact argsOf_start _ _ _ _ _ _ _ _ _ _ _ _ _

theorem v25 (r : Fin 1024) (i : Fin 64) : V m c main_v25 (ix2 r i) = (args m c).start (ix2 r i) := by
  rw [args_start, at_v25]

end Cert.Proof.HostValues

end
-- ==== Proof.WinReads.lean ====
/-
  The windows' blocks, read at an index: the weights' windows hold their arrays whole, the noise's window a block of rows.
-/
module

public import proofs.«01_k».proof.Proof.HostValues
public import Idealize.ShloMosaic.Lib.Pipeline.ValueKit

@[expose] public section

noncomputable section

namespace Cert.Proof.HostValues

open Cert.KernelIdeal Cert.KernelIdeal.Gen
open Idealize.ShloMosaic Idealize.ShloMosaic.TcCoe
open Idealize.SL Idealize.SL.Sem
open scoped BigOperators

variable (m : (ℓ : Loc nD τ sig) → Buf (Elt Ideal) ℓ) (c : Dev nD) (t : Fin cfg0.N)

theorem index_1 : ∀ t : Fin cfg0.N, win0_1.index t = ![0, 0] := (by decide +kernel : ∀ t : Fin grid0.N, _)

theorem block_1 (x : (⟨2, ![1024, 64]⟩ : Shape).Idx) : iblk m c 1 t x = V m c main_v25 x := by
  blk_simp [iblk]
  refine congrArg (V m c main_v25) ?_
  blk_ext [index_1 t]

theorem index_2 : ∀ t : Fin cfg0.N, win0_2.index t = ![0, 0] := (by decide +kernel : ∀ t : Fin grid0.N, _)

theorem block_2 (x : (⟨2, ![64, 128]⟩ : Shape).Idx) : iblk m c 2 t x = V m c main_v13 x := by
  blk_simp [iblk]
  refine congrArg (V m c main_v13) ?_
  blk_ext [index_2 t]

theorem index_3 : ∀ t : Fin cfg0.N, win0_3.index t = ![0, 0] := (by decide +kernel : ∀ t : Fin grid0.N, _)

theorem block_3 (x : (⟨2, ![1, 128]⟩ : Shape).Idx) : iblk m c 3 t x = V m c main_v1 x := by
  blk_simp [iblk]
  refine congrArg (V m c main_v1) ?_
  blk_ext [index_3 t]

theorem index_4 : ∀ t : Fin cfg0.N, win0_4.index t = ![0, 0] := (by decide +kernel : ∀ t : Fin grid0.N, _)

theorem block_4 (x : (⟨2, ![1, 128]⟩ : Shape).Idx) : iblk m c 4 t x = V m c main_v2 x := by
  blk_simp [iblk]
  refine congrArg (V m c main_v2) ?_
  blk_ext [index_4 t]

theorem index_5 : ∀ t : Fin cfg0.N, win0_5.index t = ![0, 0] := (by decide +kernel : ∀ t : Fin grid0.N, _)

theorem block_5 (x : (⟨2, ![128, 64]⟩ : Shape).Idx) : iblk m c 5 t x = V m c main_v12 x := by
  blk_simp [iblk]
  refine congrArg (V m c main_v12) ?_
  blk_ext [index_5 t]

theorem index_6 : ∀ t : Fin cfg0.N, win0_6.index t = ![0, 0] := (by decide +kernel : ∀ t : Fin grid0.N, _)

theorem block_6 (x : (⟨2, ![1, 64]⟩ : Shape).Idx) : iblk m c 6 t x = V m c main_v3 x := by
  blk_simp [iblk]
  refine congrArg (V m c main_v3) ?_
  blk_ext [index_6 t]

theorem index_7 : ∀ t : Fin cfg0.N, win0_7.index t = ![0, 0] := (by decide +kernel : ∀ t : Fin grid0.N, _)

theorem block_7 (x : (⟨2, ![64, 128]⟩ : Shape).Idx) : iblk m c 7 t x = V m c main_v9 x := by
  blk_simp [iblk]
  refine congrArg (V m c main_v9) ?_
  blk_ext [index_7 t]

theorem index_8 : ∀ t : Fin cfg0.N, win0_8.index t = ![0, 0] := (by decide +kernel : ∀ t : Fin grid0.N, _)

theorem block_8 (x : (⟨2, ![128, 64]⟩ : Shape).Idx) : iblk m c 8 t x = V m c main_v11 x := by
  blk_simp [iblk]
  refine congrArg (V m c main_v11) ?_
  blk_ext [index_8 t]

theorem index_9 : ∀ t : Fin cfg0.N, win0_9.index t = ![0, 0] := (by decide +kernel : ∀ t : Fin grid0.N, _)

theorem block_9 (x : (⟨2, ![128, 128]⟩ : Shape).Idx) : iblk m c 9 t x = V m c main_v16 x := by
  blk_simp [iblk]
  refine congrArg (V m c main_v16) ?_
  blk_ext [index_9 t]

theorem index_10 : ∀ t : Fin cfg0.N, win0_10.index t = ![0, 0] := (by decide +kernel : ∀ t : Fin grid0.N, _)

theorem block_10 (x : (⟨2, ![1, 32]⟩ : Shape).Idx) : iblk m c 10 t x = V m c main_arg8 x := by
  blk_simp [iblk]
  refine congrArg (V m c main_arg8) ?_
  blk_ext [index_10 t]

theorem index_11 : ∀ t : Fin cfg0.N, win0_11.index t = ![0, 0] := (by decide +kernel : ∀ t : Fin grid0.N, _)

theorem block_11 (x : (⟨2, ![1, 32]⟩ : Shape).Idx) : iblk m c 11 t x = V m c main_v17 x := by
  blk_simp [iblk]
  refine congrArg (V m c main_v17) ?_
  blk_ext [index_11 t]

theorem index_12 : ∀ t : Fin cfg0.N, win0_12.index t = ![0, 0] := (by decide +kernel : ∀ t : Fin grid0.N, _)

theorem block_12 (x : (⟨2, ![32, 64]⟩ : Shape).Idx) : iblk m c 12 t x = V m c main_arg10 x := by
  blk_simp [iblk]
  refine congrArg (V m c main_arg10) ?_
  blk_ext [index_12 t]

theorem index_13 : ∀ t : Fin cfg0.N, win0_13.index t = ![0, 0] := (by decide +kernel : ∀ t : Fin grid0.N, _)

theorem block_13 (x : (⟨2, ![1, 64]⟩ : Shape).Idx) : iblk m c 13 t x = V m c main_v18 x := by
  blk_simp [iblk]
  refine congrArg (V m c main_v18) ?_
  blk_ext [index_13 t]

theorem index_14 : ∀ t : Fin cfg0.N, win0_14.index t = ![0, 0] := (by decide +kernel : ∀ t : Fin grid0.N, _)

theorem block_14 (x : (⟨2, ![1, 1]⟩ : Shape).Idx) : iblk m c 14 t x = V m c main_v19 x := by
  blk_simp [iblk]
  refine congrArg (V m c main_v19) ?_
  blk_ext [index_14 t]

theorem index_15 : ∀ t : Fin cfg0.N, win0_15.index t = ![0, 0] := (by decide +kernel : ∀ t : Fin grid0.N, _)

theorem block_15 (x : (⟨2, ![1, 1]⟩ : Shape).Idx) : iblk m c 15 t x = V m c main_v20 x := by
  blk_simp [iblk]
  refine congrArg (V m c main_v20) ?_
  blk_ext [index_15 t]

/-- The windows of the weights hold what the block's first part asks of them. -/
theorem winIs : WinIs (args m c) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) (iblk m c 15 t) where
  w1 i k := (block_2 m c t _).trans (v13 m c i k)
  wt k := (block_3 m c t _).trans (v1 m c k)
  b1 k := (block_4 m c t _).trans (v2 m c k)
  w2 k l := (block_5 m c t _).trans (v12 m c k l)
  b2 l := (block_6 m c t _).trans (v3 m c l)
  w2t l k := (block_7 m c t _).trans (v9 m c l k)
  w1t k i := (block_8 m c t _).trans (v11 m c k i)
  w1w1 l k := (block_9 m c t _).trans (v16 m c l k)
  wd1 l := (block_10 m c t _).trans (congrFun (V_main_arg8 m c) _)
  bd1 l := (block_11 m c t _).trans (v17 m c l)
  wd2 l n := (block_12 m c t _).trans (congrFun (V_main_arg10 m c) _)
  bd2 n := (block_13 m c t _).trans (v18 m c n)
  mn := (block_14 m c t _).trans (v19 m c)
  mx := (block_15 m c t _).trans (v20 m c)

theorem index_0 : ∀ t : Fin cfg0.N, win0_0.index t = ![t.val, 0, 0] := (by decide +kernel : ∀ t : Fin grid0.N, _)

theorem xsize_0 : ∀ t : Fin cfg0.N, win0_0.xsize (grid0.coords t) 0 = min 16 (511 - 16 * t.val) ∧ win0_0.xsize (grid0.coords t) 1 = 1024
    ∧ win0_0.xsize (grid0.coords t) 2 = 64 := (by decide +kernel : ∀ t : Fin grid0.N, _)

/-- A buffer the noise's block is fetched into holds the noise's rows on the part of the block inside the array. -/
theorem noise_0 (d : S16x1024x64.Idx → Elt Ideal .f32) (j : Fin 16) (r : Fin 1024) (n : Fin 64) (h : 16 * t.val + j.val < 511) :
    win0_0.fill (grid0.coords t) d (iblk m c 0 t) (ix3 j r n) = (args m c).noise (ix3 ⟨16 * t.val + j.val, h⟩ r n) := by
  have hm : win0_0.moved (grid0.coords t) (ix3 j r n) = true := by
    rw [Pipeline.Window.moved_iff]
    obtain ⟨h0, h1, h2⟩ := xsize_0 t
    have hj := j.isLt
    have hr := r.isLt
    have hn := n.isLt
    intro a
    fin_cases a
    · show j.val < win0_0.xsize (grid0.coords t) 0
      omega
    · show r.val < win0_0.xsize (grid0.coords t) 1
      omega
    · show n.val < win0_0.xsize (grid0.coords t) 2
      omega
  unfold Pipeline.Window.fill
  rw [dif_pos hm]
  refine Eq.trans ?_ (congrFun (V_main_arg1 m c) _)
  blk_simp [iblk]
  refine congrArg (V m c main_arg1) ?_
  blk_ext [index_0 t]

/-- The grid's coordinate is the point's number. -/
theorem coord_0 : ∀ t : Fin cfg0.N, (grid0.coords t 0).val = t.val := (by decide +kernel : ∀ t : Fin grid0.N, _)

end Cert.Proof.HostValues

end
-- ==== Proof.KernelData.lean ====
/-
  The proof data of the kernel's run over the extended reals: what every buffer holds between the grid points.
-/
module

public import proofs.«01_k».proof.Proof.KernelBlock
public import proofs.«01_k».proof.Proof.WinReads
public import proofs.«01_k».proof.Proof.FrameRun

@[expose] public section

noncomputable section

namespace Cert.Proof

open Cert.KernelIdeal Cert.KernelIdeal.Gen Cert.Proof.HostValues
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ) (ρ : Dev nD → PrngReg)

/-- A whole memref held at given contents is its buffer held at contents that read so. -/
theorem owns_eq {c : Thread nD τ} {sp : Space} {sh : Shape} {e : EltTy} {M : Memref sig c.2.kind sp sh e}
    (hw : M.IsWhole) (X : sh.Idx → Elt Ideal e) :
    (owns c M fullShare X : sProp 𝕄)
      = iprop(∃ f : Buf (Elt Ideal) (M.view.loc c), ⌜M.view.read (Elt Ideal) f = X⌝ ∗ ((M.view.loc c) ↦{fullShare} f)) := by
  obtain ⟨b, hsp, hsh, he, h⟩ := hw
  subst hsp hsh he
  cases h
  unfold owns
  simp only [Memref.view_whole, View.set_whole]

/-- The block of the recurrence's states a point writes. -/
def outAt (c : Dev nD) (t : Fin cfg0.N) : Vec Ideal S16x1024x64 .f32 :=
  fun x => ((args m c).net.Y (16 * t.val + (x 0).val) (x 1) (x 2) : EReal)

/-- The carried state before the point numbered n: past the first point it is the recurrence's. -/
def Carried (c : Dev nD) (n : ℕ) (f : Bf (F := Ideal) c yScr) : Prop :=
  n ≠ 0 → n < 32 → ∀ (r : Fin 1024) (i : Fin 64), yScr.view.read (Elt Ideal) f (ix2 r i) = ((args m c).net.Y (16 * n) r i : EReal)

/-- The proof data on core c. -/
def datsV (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => outAt m c t
    | ⟨n + 17, h⟩ => absurd h (Nat.not_lt.2 (Nat.le_add_left 17 n))
  Φ n := iprop(((∃ f, ⌜Carried m c n.val f⌝ ∗ pt c yScr f) ∗ (∃ f, pt c uScr f)) ∗ (∃ r, prngReg c r))
  q _ := fullShare
  owed _ := 0

/-- The noise's buffer after the fetch of a point. -/
theorem before_0 (c : Dev nD) (t : Fin cfg0.N) (d) :
    (datsV m 0 c).before 0 t d = win0_0.fill (grid0.coords t) d (iblk m c 0 t) := by
  unfold Dat.before
  rw [if_pos (fetch0_0 t)]
  rfl

theorem before_1 (c : Dev nD) (t : Fin cfg0.N) (d) : (datsV m 0 c).before 1 t d = iblk m c 1 t :=
  before0_1_of m (datsV m 0 c) (by dsimp only [datsV]) (fun _ => by dsimp only [datsV]) t d

theorem before_2 (c : Dev nD) (t : Fin cfg0.N) (d) : (datsV m 0 c).before 2 t d = iblk m c 2 t :=
  before0_2_of m (datsV m 0 c) rfl (fun _ => rfl) t d

theorem before_3 (c : Dev nD) (t : Fin cfg0.N) (d) : (datsV m 0 c).before 3 t d = iblk m c 3 t :=
  before0_3_of m (datsV m 0 c) rfl (fun _ => rfl) t d

theorem before_4 (c : Dev nD) (t : Fin cfg0.N) (d) : (datsV m 0 c).before 4 t d = iblk m c 4 t :=
  before0_4_of m (datsV m 0 c) rfl (fun _ => rfl) t d

theorem before_5 (c : Dev nD) (t : Fin cfg0.N) (d) : (datsV m 0 c).before 5 t d = iblk m c 5 t :=
  before0_5_of m (datsV m 0 c) rfl (fun _ => rfl) t d

theorem before_6 (c : Dev nD) (t : Fin cfg0.N) (d) : (datsV m 0 c).before 6 t d = iblk m c 6 t :=
  before0_6_of m (datsV m 0 c) rfl (fun _ => rfl) t d

theorem before_7 (c : Dev nD) (t : Fin cfg0.N) (d) : (datsV m 0 c).before 7 t d = iblk m c 7 t :=
  before0_7_of m (datsV m 0 c) rfl (fun _ => rfl) t d

theorem before_8 (c : Dev nD) (t : Fin cfg0.N) (d) : (datsV m 0 c).before 8 t d = iblk m c 8 t :=
  before0_8_of m (datsV m 0 c) rfl (fun _ => rfl) t d

theorem before_9 (c : Dev nD) (t : Fin cfg0.N) (d) : (datsV m 0 c).before 9 t d = iblk m c 9 t :=
  before0_9_of m (datsV m 0 c) rfl (fun _ => rfl) t d

theorem before_10 (c : Dev nD) (t : Fin cfg0.N) (d) : (datsV m 0 c).before 10 t d = iblk m c 10 t :=
  before0_10_of m (datsV m 0 c) rfl (fun _ => rfl) t d

theorem before_11 (c : Dev nD) (t : Fin cfg0.N) (d) : (datsV m 0 c).before 11 t d = iblk m c 11 t :=
  before0_11_of m (datsV m 0 c) rfl (fun _ => rfl) t d

theorem before_12 (c : Dev nD) (t : Fin cfg0.N) (d) : (datsV m 0 c).before 12 t d = iblk m c 12 t :=
  before0_12_of m (datsV m 0 c) rfl (fun _ => rfl) t d

theorem before_13 (c : Dev nD) (t : Fin cfg0.N) (d) : (datsV m 0 c).before 13 t d = iblk m c 13 t :=
  before0_13_of m (datsV m 0 c) rfl (fun _ => rfl) t d

theorem before_14 (c : Dev nD) (t : Fin cfg0.N) (d) : (datsV m 0 c).before 14 t d = iblk m c 14 t :=
  before0_14_of m (datsV m 0 c) rfl (fun _ => rfl) t d

theorem before_15 (c : Dev nD) (t : Fin cfg0.N) (d) : (datsV m 0 c).before 15 t d = iblk m c 15 t :=
  before0_15_of m (datsV m 0 c) rfl (fun _ => rfl) t d

end Cert.Proof

end
-- ==== Proof.KernelRun.lean ====
/-
  The kernel's run over the extended reals: it leaves the recurrence's states in its output array, its arguments as they were.
-/
module

public import proofs.«01_k».proof.Proof.KernelData

@[expose] public section

noncomputable section

namespace Cert.Proof

open Cert.KernelIdeal Cert.KernelIdeal.Gen Cert.Proof.HostValues
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ) (ρ : Dev nD → PrngReg)

def preV (c : Dev nD) (t : Fin cfg0.N) : sProp 𝕄 :=
  iprop((datsV m 0 c).Φ t.castSucc ∗ (datsV m 0 c).owesAt () t.castSucc
    ∗ (∃ d, owns (c : Thread nD τ) (st0_0 t) fullShare ((datsV m 0 c).before 0 t d))
    ∗ (∃ d, owns (c : Thread nD τ) (st0_1 t) fullShare ((datsV m 0 c).before 1 t d))
    ∗ (∃ d, owns (c : Thread nD τ) (st0_2 t) fullShare ((datsV m 0 c).before 2 t d))
    ∗ (∃ d, owns (c : Thread nD τ) (st0_3 t) fullShare ((datsV m 0 c).before 3 t d))
    ∗ (∃ d, owns (c : Thread nD τ) (st0_4 t) fullShare ((datsV m 0 c).before 4 t d))
    ∗ (∃ d, owns (c : Thread nD τ) (st0_5 t) fullShare ((datsV m 0 c).before 5 t d))
    ∗ (∃ d, owns (c : Thread nD τ) (st0_6 t) fullShare ((datsV m 0 c).before 6 t d))
    ∗ (∃ d, owns (c : Thread nD τ) (st0_7 t) fullShare ((datsV m 0 c).before 7 t d))
    ∗ (∃ d, owns (c : Thread nD τ) (st0_8 t) fullShare ((datsV m 0 c).before 8 t d))
    ∗ (∃ d, owns (c : Thread nD τ) (st0_9 t) fullShare ((datsV m 0 c).before 9 t d))
    ∗ (∃ d, owns (c : Thread nD τ) (st0_10 t) fullShare ((datsV m 0 c).before 10 t d))
    ∗ (∃ d, owns (c : Thread nD τ) (st0_11 t) fullShare ((datsV m 0 c).before 11 t d))
    ∗ (∃ d, owns (c : Thread nD τ) (st0_12 t) fullShare ((datsV m 0 c).before 12 t d))
    ∗ (∃ d, owns (c : Thread nD τ) (st0_13 t) fullShare ((datsV m 0 c).before 13 t d))
    ∗ (∃ d, owns (c : Thread nD τ) (st0_14 t) fullShare ((datsV m 0 c).before 14 t d))
    ∗ (∃ d, owns (c : Thread nD τ) (st0_15 t) fullShare ((datsV m 0 c).before 15 t d))
    ∗ (∃ d, owns (c : Thread nD τ) (st0_16 t) fullShare ((datsV m 0 c).before 16 t d)))

def postV (c : Dev nD) (t : Fin cfg0.N) : sProp 𝕄 :=
  iprop((datsV m 0 c).Φ t.succ ∗ (datsV m 0 c).owesAt () t.succ
    ∗ (∃ d, owns (c : Thread nD τ) (st0_0 t) fullShare (win0_0.fill (grid0.coords t) d (win0_0.cut (grid0.coords t) ((datsV m 0 c).after 0 t))))
    ∗ owns (c : Thread nD τ) (st0_1 t) fullShare ((datsV m 0 c).after 1 t)
    ∗ owns (c : Thread nD τ) (st0_2 t) fullShare ((datsV m 0 c).after 2 t)
    ∗ owns (c : Thread nD τ) (st0_3 t) fullShare ((datsV m 0 c).after 3 t)
    ∗ owns (c : Thread nD τ) (st0_4 t) fullShare ((datsV m 0 c).after 4 t)
    ∗ owns (c : Thread nD τ) (st0_5 t) fullShare ((datsV m 0 c).after 5 t)
    ∗ owns (c : Thread nD τ) (st0_6 t) fullShare ((datsV m 0 c).after 6 t)
    ∗ owns (c : Thread nD τ) (st0_7 t) fullShare ((datsV m 0 c).after 7 t)
    ∗ owns (c : Thread nD τ) (st0_8 t) fullShare ((datsV m 0 c).after 8 t)
    ∗ owns (c : Thread nD τ) (st0_9 t) fullShare ((datsV m 0 c).after 9 t)
    ∗ owns (c : Thread nD τ) (st0_10 t) fullShare ((datsV m 0 c).after 10 t)
    ∗ owns (c : Thread nD τ) (st0_11 t) fullShare ((datsV m 0 c).after 11 t)
    ∗ owns (c : Thread nD τ) (st0_12 t) fullShare ((datsV m 0 c).after 12 t)
    ∗ owns (c : Thread nD τ) (st0_13 t) fullShare ((datsV m 0 c).after 13 t)
    ∗ owns (c : Thread nD τ) (st0_14 t) fullShare ((datsV m 0 c).after 14 t)
    ∗ owns (c : Thread nD τ) (st0_15 t) fullShare ((datsV m 0 c).after 15 t)
    ∗ owns (c : Thread nD τ) (st0_16 t) fullShare ((datsV m 0 c).after 16 t))

set_option maxHeartbeats 4000000 in
/-- The body takes what a point starts from to what it ends with. -/
theorem soundV (c : Dev nD) (G : (args m c).Good) (t : Fin cfg0.N) :
    preV m c t ⊢ wp frame (wpE (defs₀ (F := Ideal)) Variants.none c none) Set.univ (bodyAt0 t) (fun _ => postV m c t) := by
  unfold preV postV bodyAt0
  rw [show (datsV m 0 c).owesAt () t.succ = (datsV m 0 c).owesAt () t.castSucc from rfl,
    show (datsV m 0 c).Φ t.castSucc = iprop(((∃ f, ⌜Carried m c t.val f⌝ ∗ pt c yScr f) ∗ (∃ f, pt c uScr f)) ∗ (∃ r, prngReg c r)) from rfl,
    show (datsV m 0 c).Φ t.succ = iprop(((∃ f, ⌜Carried m c (t.val + 1) f⌝ ∗ pt c yScr f) ∗ (∃ f, pt c uScr f)) ∗ (∃ r, prngReg c r)) from rfl]
  have o0 := fun X => owns_eq (c := (c : Thread nD τ)) (M := st0_0 t) (hstage0_0 ((cfg0.slots t 0).cast nbuf0_0)) X
  have o1 := fun X => owns_eq (c := (c : Thread nD τ)) (M := st0_1 t) (hstage0_1 ((cfg0.slots t 1).cast nbuf0_1)) X
  have o2 := fun X => owns_eq (c := (c : Thread nD τ)) (M := st0_2 t) (hstage0_2 ((cfg0.slots t 2).cast nbuf0_2)) X
  have o3 := fun X => owns_eq (c := (c : Thread nD τ)) (M := st0_3 t) (hstage0_3 ((cfg0.slots t 3).cast nbuf0_3)) X
  have o4 := fun X => owns_eq (c := (c : Thread nD τ)) (M := st0_4 t) (hstage0_4 ((cfg0.slots t 4).cast nbuf0_4)) X
  have o5 := fun X => owns_eq (c := (c : Thread nD τ)) (M := st0_5 t) (hstage0_5 ((cfg0.slots t 5).cast nbuf0_5)) X
  have o6 := fun X => owns_eq (c := (c : Thread nD τ)) (M := st0_6 t) (hstage0_6 ((cfg0.slots t 6).cast nbuf0_6)) X
  have o7 := fun X => owns_eq (c := (c : Thread nD τ)) (M := st0_7 t) (hstage0_7 ((cfg0.slots t 7).cast nbuf0_7)) X
  have o8 := fun X => owns_eq (c := (c : Thread nD τ)) (M := st0_8 t) (hstage0_8 ((cfg0.slots t 8).cast nbuf0_8)) X
  have o9 := fun X => owns_eq (c := (c : Thread nD τ)) (M := st0_9 t) (hstage0_9 ((cfg0.slots t 9).cast nbuf0_9)) X
  have o10 := fun X => owns_eq (c := (c : Thread nD τ)) (M := st0_10 t) (hstage0_10 ((cfg0.slots t 10).cast nbuf0_10)) X
  have o11 := fun X => owns_eq (c := (c : Thread nD τ)) (M := st0_11 t) (hstage0_11 ((cfg0.slots t 11).cast nbuf0_11)) X
  have o12 := fun X => owns_eq (c := (c : Thread nD τ)) (M := st0_12 t) (hstage0_12 ((cfg0.slots t 12).cast nbuf0_12)) X
  have o13 := fun X => owns_eq (c := (c : Thread nD τ)) (M := st0_13 t) (hstage0_13 ((cfg0.slots t 13).cast nbuf0_13)) X
  have o14 := fun X => owns_eq (c := (c : Thread nD τ)) (M := st0_14 t) (hstage0_14 ((cfg0.slots t 14).cast nbuf0_14)) X
  have o15 := fun X => owns_eq (c := (c : Thread nD τ)) (M := st0_15 t) (hstage0_15 ((cfg0.slots t 15).cast nbuf0_15)) X
  have o16 := fun X => owns_eq (c := (c : Thread nD τ)) (M := st0_16 t) (hstage0_16 ((cfg0.slots t 16).cast nbuf0_16)) X
  simp only [o0, o1, o2, o3, o4, o5, o6, o7, o8, o9, o10, o11, o12, o13, o14, o15, o16, before_0, before_1, before_2, before_3, before_4, before_5, before_6, before_7, before_8, before_9, before_10, before_11, before_12, before_13, before_14, before_15]
  iintro ⟨⟨⟨⟨%f17, %e17, H17⟩, ⟨%f18, H18⟩⟩, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩, ⟨%d16, %f16, %e16, H16⟩⟩
  have ht : (grid0.coords t 0).val = t.val := coord_0 t
  iapply (runBlock (args m c) G c (grid0.coords t) (win0_0.stage (cfg0.slots t 0)) (hstage0_0 ((cfg0.slots t 0).cast nbuf0_0)) f0 (win0_1.stage (cfg0.slots t 1)) (hstage0_1 ((cfg0.slots t 1).cast nbuf0_1)) f1 (win0_2.stage (cfg0.slots t 2)) (hstage0_2 ((cfg0.slots t 2).cast nbuf0_2)) f2 (win0_3.stage (cfg0.slots t 3)) (hstage0_3 ((cfg0.slots t 3).cast nbuf0_3)) f3 (win0_4.stage (cfg0.slots t 4)) (hstage0_4 ((cfg0.slots t 4).cast nbuf0_4)) f4 (win0_5.stage (cfg0.slots t 5)) (hstage0_5 ((cfg0.slots t 5).cast nbuf0_5)) f5 (win0_6.stage (cfg0.slots t 6)) (hstage0_6 ((cfg0.slots t 6).cast nbuf0_6)) f6 (win0_7.stage (cfg0.slots t 7)) (hstage0_7 ((cfg0.slots t 7).cast nbuf0_7)) f7 (win0_8.stage (cfg0.slots t 8)) (hstage0_8 ((cfg0.slots t 8).cast nbuf0_8)) f8 (win0_9.stage (cfg0.slots t 9)) (hstage0_9 ((cfg0.slots t 9).cast nbuf0_9)) f9 (win0_10.stage (cfg0.slots t 10)) (hstage0_10 ((cfg0.slots t 10).cast nbuf0_10)) f10 (win0_11.stage (cfg0.slots t 11)) (hstage0_11 ((cfg0.slots t 11).cast nbuf0_11)) f11 (win0_12.stage (cfg0.slots t 12)) (hstage0_12 ((cfg0.slots t 12).cast nbuf0_12)) f12 (win0_13.stage (cfg0.slots t 13)) (hstage0_13 ((cfg0.slots t 13).cast nbuf0_13)) f13 (win0_14.stage (cfg0.slots t 14)) (hstage0_14 ((cfg0.slots t 14).cast nbuf0_14)) f14 (win0_15.stage (cfg0.slots t 15)) (hstage0_15 ((cfg0.slots t 15).cast nbuf0_15)) f15 (win0_16.stage (cfg0.slots t 16)) (hstage0_16 ((cfg0.slots t 16).cast nbuf0_16)) f16 yScr (Memref.isWhole_whole _) f17 uScr (Memref.isWhole_whole _) f18
    (by
      rw [e2, e3, e4, e5, e6, e7, e8, e9, e10, e11, e12, e13, e14, e15]
      exact winIs m c t)
    (by
      intro j r n h
      have h' : 16 * t.val + j.val < 511 := by rw [← ht]; exact h
      rw [e0]
      refine (noise_0 m c t d0 j r n h').trans (congrArg (args m c).noise ?_)
      exact congrArg (fun q => ix3 q r n) (Fin.ext (by show 16 * t.val + j.val = 16 * (grid0.coords t 0).val + j.val; rw [ht])))
    (by
      intro r n
      rw [e1]
      exact (block_1 m c t _).trans (v25 m c r n))
    (by
      intro hne r n
      rw [ht] at hne ⊢
      exact e17 hne t.isLt r n) _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  iintro ⟨H0, H1, H2, H3, H4, H5, H6, H7, H8, H9, H10, H11, H12, H13, H14, H15, ⟨%g16, %q16, H16⟩, ⟨%g17, %q17, H17⟩, ⟨%g18, H18⟩⟩
  isplitl [H17 H18 Hg]
  · isplitl [H17 H18]
    · isplitl [H17]
      · iexists g17
        isplitr; swap; · iexact H17
        ipureintro
        intro _ hlt r n
        rw [ht] at q17
        exact q17 (by omega) r n
      iexists _; iexact H18
    iexact Hg
  isplitl [HO]
  · iexact HO
  isplitl [H0]
  · iexists d0
    iexists f0
    isplitr; swap; · iexact H0
    ipureintro
    rw [e0]
    exact congrArg (win0_0.fill (grid0.coords t) d0) (win0_0.cut_fill (grid0.coords t) (fun _ => (0 : EReal)) (iblk m c 0 t)).symm
  isplitl [H1]
  · iexists f1
    isplitr; swap; · iexact H1
    ipureintro
    dsimp only [datsV]
    exact e1
  isplitl [H2]
  · iexists f2
    isplitr; swap; · iexact H2
    ipureintro
    exact e2
  isplitl [H3]
  · iexists f3
    isplitr; swap; · iexact H3
    ipureintro
    exact e3
  isplitl [H4]
  · iexists f4
    isplitr; swap; · iexact H4
    ipureintro
    exact e4
  isplitl [H5]
  · iexists f5
    isplitr; swap; · iexact H5
    ipureintro
    exact e5
  isplitl [H6]
  · iexists f6
    isplitr; swap; · iexact H6
    ipureintro
    exact e6
  isplitl [H7]
  · iexists f7
    isplitr; swap; · iexact H7
    ipureintro
    exact e7
  isplitl [H8]
  · iexists f8
    isplitr; swap; · iexact H8
    ipureintro
    exact e8
  isplitl [H9]
  · iexists f9
    isplitr; swap; · iexact H9
    ipureintro
    exact e9
  isplitl [H10]
  · iexists f10
    isplitr; swap; · iexact H10
    ipureintro
    exact e10
  isplitl [H11]
  · iexists f11
    isplitr; swap; · iexact H11
    ipureintro
    exact e11
  isplitl [H12]
  · iexists f12
    isplitr; swap; · iexact H12
    ipureintro
    exact e12
  isplitl [H13]
  · iexists f13
    isplitr; swap; · iexact H13
    ipureintro
    exact e13
  isplitl [H14]
  · iexists f14
    isplitr; swap; · iexact H14
    ipureintro
    exact e14
  isplitl [H15]
  · iexists f15
    isplitr; swap; · iexact H15
    ipureintro
    exact e15
  iexists g16
  isplitr; swap; · iexact H16
  ipureintro
  funext x
  rw [ht] at q16
  exact q16 x

theorem obligationV (c : Dev nD) (G : (args m c).Good) :
    Pipeline.BodyObligationLoose (datsV m 0 c) (defs₀ (F := Ideal)) Variants.none () Set.univ := fun t => by
  rw [bigSep_W0, bigSep_W0, defs₀_row]
  exact triple_restated (soundV m c G t) rfl .rfl fun _ => .rfl

theorem phi_in (c : Dev nD) : Pipeline.ΦA spec0 c ⊢ (datsV m 0 c).Φ 0 := by
  rw [PhiA_eq, show (datsV m 0 c).Φ 0 = iprop(((∃ f, ⌜Carried m c 0 f⌝ ∗ pt c yScr f) ∗ (∃ f, pt c uScr f)) ∗ (∃ r, prngReg c r)) from rfl]
  iintro ⟨⟨⟨%f17, H17⟩, H18⟩, Hg⟩
  isplitl [H17 H18]
  · isplitl [H17]
    · iexists f17
      isplitr; swap; · iexact H17
      ipureintro
      exact fun h => absurd rfl h
    iexact H18
  iexact Hg

theorem phi_out (c : Dev nD) : (datsV m 0 c).Φ (Fin.last cfg0.N) ⊢ Pipeline.ΦA spec0 c := by
  rw [PhiA_eq, show (datsV m 0 c).Φ (Fin.last cfg0.N) = iprop(((∃ f, ⌜Carried m c (Fin.last cfg0.N).val f⌝ ∗ pt c yScr f) ∗ (∃ f, pt c uScr f)) ∗ (∃ r, prngReg c r)) from rfl]
  iintro ⟨⟨⟨%f17, -, H17⟩, H18⟩, Hg⟩
  isplitl [H17 H18]
  · isplitl [H17]
    · iexists f17; iexact H17
    iexact H18
  iexact Hg

set_option backward.isDefEq.respectTransparency.types false in
theorem run_value (G : ∀ c, (args m c).Good) :
    θ_run (defs (F := Ideal)) (onTc (τ := τ) (main (F := Ideal))) (s₀ m ρ)
      (Pipeline.FramePost cfgs (datsV m) 0 (Pipeline.afterTail₀ cfgs (datsV m) 0 (V0 m) [hostOps1])) :=
  Pipeline.θ_run_frame_around_track cfgs (datsV m) (0 : Fin 1) launch0 defs₀ Variants.none m ρ main
    (hbody := fun c => obligationV m c (G c)) (hshare := fun c => (datsV m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hin := phi_in m) (hout := phi_out m)

end Cert.Proof

end
-- ==== Proof.KernelValue.lean ====
/-
  What the kernel returns over the extended reals: the recurrence's states, row by row of the batch.
-/
module

public import proofs.«01_k».proof.Proof.KernelRun

@[expose] public section

noncomputable section

namespace Cert.Proof

open Cert.KernelIdeal Cert.KernelIdeal.Gen Cert.Proof.HostValues
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable (m : (ℓ : Loc nD τ sig) → Buf (Elt Ideal) ℓ) (ρ : Dev nD → PrngReg)

theorem index_16 : ∀ t : Fin cfg0.N, win0_16.index t = ![t.val, 0, 0] := (by decide +kernel : ∀ t : Fin grid0.N, _)

/-- The array of states, step by step. -/
def statesOf (c : Dev nD) : FVec Ideal S512x1024x64 .f32 := fun i => ((args m c).net.Y (i 0).val (i 1) (i 2) : EReal)

/-- The kernel's result: the states, row by row of the batch. -/
def resultOf (c : Dev nD) : FVec Ideal S1024x512x64 .f32 := fun i => ((args m c).net.Y (i 1).val (i 0) (i 2) : EReal)

/-- The kernel's output array after the last point. -/
theorem final_16 (c : Dev nD) : (datsV m 0 c).arrAt 16 cfg0.N = statesOf m c := by
  refine (datsV m 0 c).arrAt_eq_of_covers 16 _ (by decide +kernel) fun t hf y => ?_
  blk_simp
  show outAt m c t y = statesOf m c _
  unfold outAt statesOf
  have e0 : (((win0_16.blk t).view.emb y) 0).val = 16 * t.val + (y 0).val := by
    blk_simp [index_16 t]
    show t.val * 16 + (y 0).val = _
    omega
  have e1 : ((win0_16.blk t).view.emb y) 1 = y 1 := by
    apply Fin.ext
    blk_simp [index_16 t]
  have e2 : ((win0_16.blk t).view.emb y) 2 = y 2 := by
    apply Fin.ext
    blk_simp [index_16 t]
  rw [e0, e1, e2]

/-- What the operation after the launch leaves in the result. -/
theorem tail_27 (c : Dev nD) : Pipeline.afterTail₀ cfgs (datsV m) 0 (V0 m) [hostOps1] c main_v27 = resultOf m c := by
  unfold Pipeline.afterTail₀
  simp only [hostOps1, List.flatten_cons, List.flatten_nil, List.append_nil, List.cons_append, List.nil_append]
  after_results_simp
  rw [show Pipeline.withArrays spec0 c (V0 m c) (fun w => (datsV m 0 c).arrAt w cfg0.N) (Proc.devRef .tc main_v26)
    = (datsV m 0 c).arrAt 16 cfg0.N from Pipeline.withArrays_arr spec0 (by decide) c (V0 m c) _ 16, final_16]
  funext x
  obtain ⟨a, b, d, rfl⟩ : ∃ a b d, x = ix3 a b d := ⟨x 0, x 1, x 2, by funext k; fin_cases k <;> rfl⟩
  pointwise
  rfl

/-- The kernel's run: the result holds the recurrence's states, the arguments are as they were. -/
theorem kernel_run (G : ∀ c, (args m c).Good) :
    θ_run (defs (F := Ideal)) (onTc (τ := τ) (main (F := Ideal))) ⟨m, fun _ => 0, ρ⟩ (fun r => ∀ c : Dev nD,
      r.2.mem ((c.tc : Thread nD τ).loc main_v27) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_v27 (Pipeline.mem_restRefs_of main_v27 (by decide) (by decide))).trans (tail_27 m c),
      ((h c).2 main_arg0 (Pipeline.mem_restRefs_of main_arg0 (by decide) (by decide))).trans (W_main_arg0 m (datsV m) c),
      ((h c).1 0).trans (((datsV m 0 c).arrAt_in 0 rfl _).trans (V_main_arg1 m c)),
      ((h c).2 main_arg2 (Pipeline.mem_restRefs_of main_arg2 (by decide) (by decide))).trans (W_main_arg2 m (datsV m) c),
      ((h c).2 main_arg3 (Pipeline.mem_restRefs_of main_arg3 (by decide) (by decide))).trans (W_main_arg3 m (datsV m) c),
      ((h c).2 main_arg4 (Pipeline.mem_restRefs_of main_arg4 (by decide) (by decide))).trans (W_main_arg4 m (datsV m) c),
      ((h c).2 main_arg5 (Pipeline.mem_restRefs_of main_arg5 (by decide) (by decide))).trans (W_main_arg5 m (datsV m) c),
      ((h c).2 main_arg6 (Pipeline.mem_restRefs_of main_arg6 (by decide) (by decide))).trans (W_main_arg6 m (datsV m) c),
      ((h c).2 main_arg7 (Pipeline.mem_restRefs_of main_arg7 (by decide) (by decide))).trans (W_main_arg7 m (datsV m) c),
      ((h c).1 10).trans (((datsV m 0 c).arrAt_in 10 rfl _).trans (V_main_arg8 m c)),
      ((h c).2 main_arg9 (Pipeline.mem_restRefs_of main_arg9 (by decide) (by decide))).trans (W_main_arg9 m (datsV m) c),
      ((h c).1 12).trans (((datsV m 0 c).arrAt_in 12 rfl _).trans (V_main_arg10 m c)),
      ((h c).2 main_arg11 (Pipeline.mem_restRefs_of main_arg11 (by decide) (by decide))).trans (W_main_arg11 m (datsV m) c),
      ((h c).2 main_arg12 (Pipeline.mem_restRefs_of main_arg12 (by decide) (by decide))).trans (W_main_arg12 m (datsV m) c),
      ((h c).2 main_arg13 (Pipeline.mem_restRefs_of main_arg13 (by decide) (by decide))).trans (W_main_arg13 m (datsV m) c)⟩) (run_value m ρ G)

end Cert.Proof

end
-- ==== Proof.PreDecode.lean ====
/-
  What the precondition says of the data: the times are the grid (s+1)·dt, and the arrays the step is made of are finite.
-/
module

public import proofs.«01_k».proof.Defs
public import proofs.«01_k».proof.Proof.HostValues
public import proofs.«01_k».proof.Proof.Gen.Pre_in_range
public import Idealize.ShloMosaic.Lib.ReduceAll
public import Idealize.ShloMosaic.Lib.Affine
public import Idealize.ShloMosaic.Lib.IdealHost

@[expose] public section

noncomputable section

namespace Cert.Proof.PreDecode

open Cert.Pre_in_range Cert.Proof.HostValues
open Idealize.ShloMosaic

instance : Subsingleton S_.Idx := ⟨fun a b => funext fun k => k.elim0⟩

theorem ofBits_top : Ideal.ofBits .f32 0x7F800000#32 = ⊤ := by simp [Ideal.ofBits, Ideal.ieee]

/-- A comparison that holds is the order's. -/
theorem lt_of_cmp (x y : Ideal .f32) (e : Ideal.cmp .olt x y = 1#1) : (x : EReal) < y := by
  by_contra h
  simp [Ideal.cmp, h] at e

theorem eq_of_cmp (x y : Ideal .f32) (e : Ideal.cmp .oeq x y = 1#1) : x = y := by
  by_contra h
  simp [Ideal.cmp, h] at e

/-- `all (|x| < +inf)` says that no element of `x` is infinite. -/
theorem finite_of_all {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant S_ .f32 0x7F800000#32))) (constantI S_ 1 1#1) hr hu ix0 = 1#1)
    (i : s.Idx) : mag (x i) < ⊤ := by
  have h := lt_of_cmp _ _ (Host.reduce_andi_all _ _ _ _ ix0 e i)
  rw [← ofBits_top]
  exact h

theorem toInt_step (s : Fin 512) : (BitVec.ofNat 32 s.val).toInt = (s.val : ℤ) := by
  have := s.isLt
  rw [BitVec.toInt_eq_toNat_of_lt] <;> rw [BitVec.toNat_ofNat] <;> omega

/-- The precondition's seven conditions. -/
structure Conds (a0 : FVec Ideal S1024x512x3 .f32) (a1 : FVec Ideal S511x1024x64 .f32) (a2 : FVec Ideal S65x128 .f32)
    (a3 : FVec Ideal S128 .f32) (a4 : FVec Ideal S128x64 .f32) (a6 : FVec Ideal S64x1 .f32) (a13 : FVec Ideal S_ .f32) : Prop where
  times : ∀ s : Fin 512, a0 (ix3 0 s 0) = (time s.val : EReal)
  noise : ∀ i, mag (a1 i) < ⊤
  wp1 : ∀ i, mag (a2 i) < ⊤
  bp1 : ∀ i, mag (a3 i) < ⊤
  wp2 : ∀ i, mag (a4 i) < ⊤
  wp3 : ∀ i, mag (a6 i) < ⊤
  mx : mag (a13 ix0) < ⊤

theorem and_split (c d : IVec S_ 1) (e : andi c d ix0 = 1#1) : c ix0 = 1#1 ∧ d ix0 = 1#1 := IntOp.andi_eq_one.1 e

theorem conds (a0 : FVec Ideal S1024x512x3 .f32) (a1 : FVec Ideal S511x1024x64 .f32) (a2 : FVec Ideal S65x128 .f32)
    (a3 : FVec Ideal S128 .f32) (a4 : FVec Ideal S128x64 .f32) (a5 : FVec Ideal S64 .f32) (a6 : FVec Ideal S64x1 .f32) (a7 : FVec Ideal S1 .f32)
    (a8 : FVec Ideal S1x32 .f32) (a9 : FVec Ideal S32 .f32) (a10 : FVec Ideal S32x64 .f32) (a11 : FVec Ideal S64 .f32)
    (a12 : FVec Ideal S_ .f32) (a13 : FVec Ideal S_ .f32)
    (h : fn (F := Ideal) a0 a1 a2 a3 a4 a5 a6 a7 a8 a9 a10 a11 a12 a13 = fun _ => 1#1) : Conds a0 a1 a2 a3 a4 a6 a13 := by
  have e := congrFun h ix0
  unfold fn fn_part1 fn_part2 at e
  dsimp only at e
  obtain ⟨e, emx⟩ := and_split _ _ e
  obtain ⟨e, ewp3⟩ := and_split _ _ e
  obtain ⟨e, ewp2⟩ := and_split _ _ e
  obtain ⟨e, ebp1⟩ := and_split _ _ e
  obtain ⟨e, ewp1⟩ := and_split _ _ e
  obtain ⟨etimes, enoise⟩ := and_split _ _ e
  refine ⟨fun s => ?_, finite_of_all _ _ _ _ enoise, finite_of_all _ _ _ _ ewp1, finite_of_all _ _ _ _ ebp1,
    finite_of_all _ _ _ _ ewp2, finite_of_all _ _ _ _ ewp3, ?_⟩
  · have q := eq_of_cmp _ _ (Host.reduce_andi_all _ _ _ _ ix0 etimes (ix1 s))
    have l : shapeCast S512 (extractStridedSlice S1x512x1 ![0, 0, 0] a0 Facts.slices_S1024x512x3_S1x512x1_0_0_0) Facts.shapeCasts_S1x512x1_S512 (ix1 s) = a0 (ix3 0 s 0) := by
      pointwise
    rw [l] at q
    rw [q]
    show (((BitVec.ofNat 32 s.val).toInt : ℝ) + Ideal.ofBits .f32 0x3F800000#32 : EReal) * Ideal.ofBits .f32 0x3C23D70A#32 = _
    have hs : (BitVec.ofNat 32 s.val).toInt = (s.val : ℤ) := toInt_step s
    rw [ofBits_one, ofBits_dt, hs, ← EReal.coe_add, ← EReal.coe_mul]
    unfold time
    push_cast
    rfl
  · have q := lt_of_cmp _ _ emx
    rw [← ofBits_top]
    exact q

/-- The data are good where the precondition holds. -/
theorem good (a0 : FVec Ideal S1024x512x3 .f32) (a1 : FVec Ideal S511x1024x64 .f32) (a2 : FVec Ideal S65x128 .f32)
    (a3 : FVec Ideal S128 .f32) (a4 : FVec Ideal S128x64 .f32) (a5 : FVec Ideal S64 .f32) (a6 : FVec Ideal S64x1 .f32) (a7 : FVec Ideal S1 .f32)
    (a8 : FVec Ideal S1x32 .f32) (a9 : FVec Ideal S32 .f32) (a10 : FVec Ideal S32x64 .f32) (a11 : FVec Ideal S64 .f32)
    (a12 : FVec Ideal S_ .f32) (a13 : FVec Ideal S_ .f32)
    (h : fn (F := Ideal) a0 a1 a2 a3 a4 a5 a6 a7 a8 a9 a10 a11 a12 a13 = fun _ => 1#1) :
    (argsOf a0 a1 a2 a3 a4 a5 a6 a8 a9 a10 a11 a12 a13).Good := by
  have C := conds a0 a1 a2 a3 a4 a5 a6 a7 a8 a9 a10 a11 a12 a13 h
  exact ⟨C.times, fun _ _ _ => C.noise _, fun _ _ => C.wp1 _, fun _ => C.bp1 _, fun _ _ => C.wp2 _, fun _ => C.wp3 _, C.mx⟩

end Cert.Proof.PreDecode

end
-- ==== Proof.RefStates.lean ====
/-
  The reference's run, stated over the step of one trip: at contents that hold a state (the loop's buffers at the state's
  fields, the set-up values, the trip's number) every value of one trip is the step's value of that name, so one trip goes
  from a state to the step of it, and what the reference returns is read from the state after the last trip. This is the
  text generated for the reference with one proof changed: the trajectory's row stored by a trip is the state itself.
-/
module

public import proofs.«01_k».proof.Proof.Gen.ReferenceIdeal.Run
public import proofs.«01_k».proof.Proof.Gen.ReferenceIdeal.Step

@[expose] public section

noncomputable section

namespace Cert.Proof.RefStates

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_16 : V0 (Proc.devRef .tc main_v12_16) = s.main_v12_16
  f_17 : V0 (Proc.devRef .tc main_v12_17) = s.main_v12_17
  f_0 : V0 (Proc.devRef .tc main_v12_0) = s.main_v12_0
  f_1 : V0 (Proc.devRef .tc main_v12_1) = s.main_v12_1
  f_2 : V0 (Proc.devRef .tc main_v12_2) = s.main_v12_2
  f_3 : V0 (Proc.devRef .tc main_v12_3) = s.main_v12_3
  f_4 : V0 (Proc.devRef .tc main_v12_4) = s.main_v12_4
  f_5 : V0 (Proc.devRef .tc main_v12_5) = s.main_v12_5
  f_6 : V0 (Proc.devRef .tc main_v12_6) = s.main_v12_6
  f_7 : V0 (Proc.devRef .tc main_v12_7) = s.main_v12_7
  f_8 : V0 (Proc.devRef .tc main_v12_8) = s.main_v12_8
  f_9 : V0 (Proc.devRef .tc main_v12_9) = s.main_v12_9
  f_10 : V0 (Proc.devRef .tc main_v12_10) = s.main_v12_10
  f_11 : V0 (Proc.devRef .tc main_v12_11) = s.main_v12_11
  f_12 : V0 (Proc.devRef .tc main_v12_12) = s.main_v12_12
  f_13 : V0 (Proc.devRef .tc main_v12_13) = s.main_v12_13
  f_14 : V0 (Proc.devRef .tc main_v12_14) = s.main_v12_14
  n_15 : V0 (Proc.devRef .tc main_v12_15) = constantI S_ 32 (BitVec.ofNat 32 j)

variable {V0 s j}

set_option maxRecDepth 8192 in
theorem al_0 (h : Holds V0 s j) : (Host.dynamicSlice S1 (V0 (Proc.devRef .tc main_v12_0)) (fun k => (((![V0 (Proc.devRef .tc main_v12_15)] : Fin 1 → (⟨S_, .i32⟩ : BufTy).Contents (Elt F))) k (Shape.Idx.first h_S_)).toInt) sliceFits_S511_S1 : (Proc.devRef .tc main_while0b_call0_v0 : DevRef τ sig).ty.Contents (Elt F)) = Cert.ReferenceIdeal.Step.b0 j s := by
  unfold Cert.ReferenceIdeal.Step.b0
  rw [h.f_0, h.n_15]
  try rfl
set_option maxRecDepth 8192 in
theorem al_1 (h : Holds V0 s j) : (res_main_while0b_v16 V0 : (Proc.devRef .tc main_while0b_v16 : DevRef τ sig).ty.Contents (Elt F)) = Cert.ReferenceIdeal.Step.b1 j s := by
  unfold res_main_while0b_v16 Cert.ReferenceIdeal.Step.b1
  rw [← al_0 h]
  try rfl
set_option maxRecDepth 8192 in
theorem al_2 (h : Holds V0 s j) : (Host.dynamicSlice S1 (V0 (Proc.devRef .tc main_v12_1)) (fun k => (((![V0 (Proc.devRef .tc main_v12_15)] : Fin 1 → (⟨S_, .i32⟩ : BufTy).Contents (Elt F))) k (Shape.Idx.first h_S_)).toInt) sliceFits_S511_S1 : (Proc.devRef .tc main_while0b_call1_v0 : DevRef τ sig).ty.Contents (Elt F)) = Cert.ReferenceIdeal.Step.b2 j s := by
  unfold Cert.ReferenceIdeal.Step.b2
  rw [h.f_1, h.n_15]
  try rfl
set_option maxRecDepth 8192 in
theorem al_3 (h : Holds V0 s j) : (shapeCast S_ (Host.dynamicSlice S1 (V0 (Proc.devRef .tc main_v12_1)) (fun k => (((![V0 (Proc.devRef .tc main_v12_15)] : Fin 1 → (⟨S_, .i32⟩ : BufTy).Contents (Elt F))) k (Shape.Idx.first h_S_)).toInt) sliceFits_S511_S1) shapeCasts_S1_S_ : (Proc.devRef .tc main_while0b_v17 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call2_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call2_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x1024x64 (V0 (Proc.devRef .tc main_v12_2)) (fun k => (((![V0 (Proc.devRef .tc main_v12_15), constantI S_ 32 0#32, constantI S_ 32 0#32] : Fin 3 → (⟨S_, .i32⟩ : BufTy).Contents (Elt F))) k (Shape.Idx.first h_S_)).toInt) sliceFits_S511x1024x64_S1x1024x64 : (Proc.devRef .tc main_while0b_call2_v0 : DevRef τ sig).ty.Contents (Elt F)) = Cert.ReferenceIdeal.Step.b6 j s := by
  unfold Cert.ReferenceIdeal.Step.b6
  rw [← al_4 h, ← al_5 h, h.f_2, h.n_15]
  try rfl
set_option maxRecDepth 8192 in
theorem al_7 (h : Holds V0 s j) : (shapeCast S1024x64 (Host.dynamicSlice S1x1024x64 (V0 (Proc.devRef .tc main_v12_2)) (fun k => (((![V0 (Proc.devRef .tc main_v12_15), constantI S_ 32 0#32, constantI S_ 32 0#32] : Fin 3 → (⟨S_, .i32⟩ : BufTy).Contents (Elt F))) k (Shape.Idx.first h_S_)).toInt) sliceFits_S511x1024x64_S1x1024x64) shapeCasts_S1x1024x64_S1024x64 : (Proc.devRef .tc main_while0b_v18 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (res_main_while0b_v19 V0 : (Proc.devRef .tc main_while0b_v19 : DevRef τ sig).ty.Contents (Elt F)) = Cert.ReferenceIdeal.Step.b8 j s := by
  unfold res_main_while0b_v19 Cert.ReferenceIdeal.Step.b8
  rw [← al_3 h, ← al_1 h]
  try rfl
set_option maxRecDepth 8192 in
theorem al_9 (h : Holds V0 s j) : (constant S_ .f32 0x3F800000#32 : (Proc.devRef .tc main_while0b_cst_19 : DevRef τ sig).ty.Contents (Elt F)) = Cert.ReferenceIdeal.Step.b9 j s := by
  unfold Cert.ReferenceIdeal.Step.b9
  rfl
set_option maxRecDepth 8192 in
theorem al_10 (h : Holds V0 s j) : (broadcastInDim S1024x1 ![] bcast_S_S1024x1 (constant S_ .f32 0x3F800000#32) : (Proc.devRef .tc main_while0b_v20 : DevRef τ sig).ty.Contents (Elt F)) = Cert.ReferenceIdeal.Step.b10 j s := by
  unfold Cert.ReferenceIdeal.Step.b10
  rw [← al_9 h]
  try rfl
set_option maxRecDepth 8192 in
theorem al_11 (h : Holds V0 s j) : (broadcastInDim S1024x1 ![] bcast_S_S1024x1 (res_main_while0b_v16 V0) : (Proc.devRef .tc main_while0b_v21 : DevRef τ sig).ty.Contents (Elt F)) = Cert.ReferenceIdeal.Step.b11 j s := by
  unfold Cert.ReferenceIdeal.Step.b11
  rw [← al_1 h]
  try rfl
set_option maxRecDepth 8192 in
theorem al_12 (h : Holds V0 s j) : (mulf (broadcastInDim S1024x1 ![] bcast_S_S1024x1 (res_main_while0b_v16 V0)) (broadcastInDim S1024x1 ![] bcast_S_S1024x1 (constant S_ .f32 0x3F800000#32)) : (Proc.devRef .tc main_while0b_v22 : DevRef τ sig).ty.Contents (Elt F)) = Cert.ReferenceIdeal.Step.b12 j s := by
  unfold Cert.ReferenceIdeal.Step.b12
  rw [← al_11 h, ← al_10 h]
  try rfl
set_option maxRecDepth 8192 in
theorem al_13 (h : Holds V0 s j) : (concatenate S1024x65 1 [⟨S1024x64, (V0 (Proc.devRef .tc main_v12_16))⟩, ⟨S1024x1, (mulf (broadcastInDim S1024x1 ![] bcast_S_S1024x1 (res_main_while0b_v16 V0)) (broadcastInDim S1024x1 ![] bcast_S_S1024x1 (constant S_ .f32 0x3F800000#32)))⟩] concatenates_S1024x64_S1024x1_S1024x65_d1 : (Proc.devRef .tc main_while0b_v23 : DevRef τ sig).ty.Contents (Elt F)) = Cert.ReferenceIdeal.Step.b13 j s := by
  unfold Cert.ReferenceIdeal.Step.b13
  rw [← al_12 h, h.f_16]
  try rfl
set_option maxRecDepth 8192 in
theorem al_14 (h : Holds V0 s j) : (constant S_ .f32 0x00000000#32 : (Proc.devRef .tc main_while0b_cst_20 : DevRef τ sig).ty.Contents (Elt F)) = Cert.ReferenceIdeal.Step.b14 j s := by
  unfold Cert.ReferenceIdeal.Step.b14
  rfl
set_option maxRecDepth 8192 in
theorem al_15 (h : Holds V0 s j) : (broadcastInDim S1024x1 ![] bcast_S_S1024x1 (constant S_ .f32 0x00000000#32) : (Proc.devRef .tc main_while0b_v24 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (Host.dotGeneral dot_S1024x65_S65x128_S1024x128_1_0_0_1_n_n none (concatenate S1024x65 1 [⟨S1024x64, (V0 (Proc.devRef .tc main_v12_16))⟩, ⟨S1024x1, (mulf (broadcastInDim S1024x1 ![] bcast_S_S1024x1 (res_main_while0b_v16 V0)) (broadcastInDim S1024x1 ![] bcast_S_S1024x1 (constant S_ .f32 0x3F800000#32)))⟩] concatenates_S1024x64_S1024x1_S1024x65_d1) (V0 (Proc.devRef .tc main_v12_3)) : (Proc.devRef .tc main_while0b_v25 : DevRef τ sig).ty.Contents (Elt F)) = Cert.ReferenceIdeal.Step.b16 j s := by
  unfold Cert.ReferenceIdeal.Step.b16
  rw [← al_13 h, h.f_3]
  try rfl
set_option maxRecDepth 8192 in
theorem al_17 (h : Holds V0 s j) : (broadcastInDim S1x128 ![1] bcast_S128_S1x128_1 (V0 (Proc.devRef .tc main_v12_4)) : (Proc.devRef .tc main_while0b_v26 : DevRef τ sig).ty.Contents (Elt F)) = Cert.ReferenceIdeal.Step.b17 j s := by
  unfold Cert.ReferenceIdeal.Step.b17
  rw [h.f_4]
  try rfl
set_option maxRecDepth 8192 in
theorem al_18 (h : Holds V0 s j) : (broadcastInDim S1024x128 ![0, 1] bcast_S1x128_S1024x128_0_1 (broadcastInDim S1x128 ![1] bcast_S128_S1x128_1 (V0 (Proc.devRef .tc main_v12_4))) : (Proc.devRef .tc main_while0b_v27 : DevRef τ sig).ty.Contents (Elt F)) = Cert.ReferenceIdeal.Step.b18 j s := by
  unfold Cert.ReferenceIdeal.Step.b18
  rw [← al_17 h]
  try rfl
set_option maxRecDepth 8192 in
theorem al_19 (h : Holds V0 s j) : (addf (Host.dotGeneral dot_S1024x65_S65x128_S1024x128_1_0_0_1_n_n none (concatenate S1024x65 1 [⟨S1024x64, (V0 (Proc.devRef .tc main_v12_16))⟩, ⟨S1024x1, (mulf (broadcastInDim S1024x1 ![] bcast_S_S1024x1 (res_main_while0b_v16 V0)) (broadcastInDim S1024x1 ![] bcast_S_S1024x1 (constant S_ .f32 0x3F800000#32)))⟩] concatenates_S1024x64_S1024x1_S1024x65_d1) (V0 (Proc.devRef .tc main_v12_3))) (broadcastInDim S1024x128 ![0, 1] bcast_S1x128_S1024x128_0_1 (broadcastInDim S1x128 ![1] bcast_S128_S1x128_1 (V0 (Proc.devRef .tc main_v12_4)))) : (Proc.devRef .tc main_while0b_v28 : DevRef τ sig).ty.Contents (Elt F)) = Cert.ReferenceIdeal.Step.b19 j s := by
  unfold Cert.ReferenceIdeal.Step.b19
  rw [← al_16 h, ← al_18 h]
  try rfl
set_option maxRecDepth 8192 in
theorem al_20 (h : Holds V0 s j) : (res_main_while0b_v29 V0 : (Proc.devRef .tc main_while0b_v29 : DevRef τ sig).ty.Contents (Elt F)) = Cert.ReferenceIdeal.Step.b20 j s := by
  unfold res_main_while0b_v29 Cert.ReferenceIdeal.Step.b20
  rw [← al_19 h]
  try rfl
set_option maxRecDepth 8192 in
theorem al_21 (h : Holds V0 s j) : (constant S_ .f32 0x3F800000#32 : (Proc.devRef .tc main_while0b_cst_21 : DevRef τ sig).ty.Contents (Elt F)) = Cert.ReferenceIdeal.Step.b21 j s := by
  unfold Cert.ReferenceIdeal.Step.b21
  rfl
set_option maxRecDepth 8192 in
theorem al_22 (h : Holds V0 s j) : (broadcastInDim S1024x128 ![] bcast_S_S1024x128 (constant S_ .f32 0x3F800000#32) : (Proc.devRef .tc main_while0b_v30 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (addf (broadcastInDim S1024x128 ![] bcast_S_S1024x128 (constant S_ .f32 0x3F800000#32)) (res_main_while0b_v29 V0) : (Proc.devRef .tc main_while0b_v31 : DevRef τ sig).ty.Contents (Elt F)) = Cert.ReferenceIdeal.Step.b23 j s := by
  unfold Cert.ReferenceIdeal.Step.b23
  rw [← al_22 h, ← al_20 h]
  try rfl
set_option maxRecDepth 8192 in
theorem al_24 (h : Holds V0 s j) : (constant S_ .f32 0x3F800000#32 : (Proc.devRef .tc main_while0b_cst_22 : DevRef τ sig).ty.Contents (Elt F)) = Cert.ReferenceIdeal.Step.b24 j s := by
  unfold Cert.ReferenceIdeal.Step.b24
  rfl
set_option maxRecDepth 8192 in
theorem al_25 (h : Holds V0 s j) : (broadcastInDim S1024x128 ![] bcast_S_S1024x128 (constant S_ .f32 0x3F800000#32) : (Proc.devRef .tc main_while0b_v32 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (subf (broadcastInDim S1024x128 ![] bcast_S_S1024x128 (constant S_ .f32 0x3F800000#32)) (res_main_while0b_v29 V0) : (Proc.devRef .tc main_while0b_v33 : DevRef τ sig).ty.Contents (Elt F)) = Cert.ReferenceIdeal.Step.b26 j s := by
  unfold Cert.ReferenceIdeal.Step.b26
  rw [← al_25 h, ← al_20 h]
  try rfl
set_option maxRecDepth 8192 in
theorem al_27 (h : Holds V0 s j) : (mulf (addf (broadcastInDim S1024x128 ![] bcast_S_S1024x128 (constant S_ .f32 0x3F800000#32)) (res_main_while0b_v29 V0)) (subf (broadcastInDim S1024x128 ![] bcast_S_S1024x128 (constant S_ .f32 0x3F800000#32)) (res_main_while0b_v29 V0)) : (Proc.devRef .tc main_while0b_v34 : DevRef τ sig).ty.Contents (Elt F)) = Cert.ReferenceIdeal.Step.b27 j s := by
  unfold Cert.ReferenceIdeal.Step.b27
  rw [← al_23 h, ← al_26 h]
  try rfl
set_option maxRecDepth 8192 in
theorem al_28 (h : Holds V0 s j) : (Host.dotGeneral dot_S1024x128_S128x64_S1024x64_1_0_0_1_n_n none (res_main_while0b_v29 V0) (V0 (Proc.devRef .tc main_v12_5)) : (Proc.devRef .tc main_while0b_v35 : DevRef τ sig).ty.Contents (Elt F)) = Cert.ReferenceIdeal.Step.b28 j s := by
  unfold Cert.ReferenceIdeal.Step.b28
  rw [← al_20 h, h.f_5]
  try rfl
set_option maxRecDepth 8192 in
theorem al_29 (h : Holds V0 s j) : (broadcastInDim S1x64 ![1] bcast_S64_S1x64_1 (V0 (Proc.devRef .tc main_v12_6)) : (Proc.devRef .tc main_while0b_v36 : DevRef τ sig).ty.Contents (Elt F)) = Cert.ReferenceIdeal.Step.b29 j s := by
  unfold Cert.ReferenceIdeal.Step.b29
  rw [h.f_6]
  try rfl
set_option maxRecDepth 8192 in
theorem al_30 (h : Holds V0 s j) : (broadcastInDim S1024x64 ![0, 1] bcast_S1x64_S1024x64_0_1 (broadcastInDim S1x64 ![1] bcast_S64_S1x64_1 (V0 (Proc.devRef .tc main_v12_6))) : (Proc.devRef .tc main_while0b_v37 : DevRef τ sig).ty.Contents (Elt F)) = Cert.ReferenceIdeal.Step.b30 j s := by
  unfold Cert.ReferenceIdeal.Step.b30
  rw [← al_29 h]
  try rfl
set_option maxRecDepth 8192 in
theorem al_31 (h : Holds V0 s j) : (addf (Host.dotGeneral dot_S1024x128_S128x64_S1024x64_1_0_0_1_n_n none (res_main_while0b_v29 V0) (V0 (Proc.devRef .tc main_v12_5))) (broadcastInDim S1024x64 ![0, 1] bcast_S1x64_S1024x64_0_1 (broadcastInDim S1x64 ![1] bcast_S64_S1x64_1 (V0 (Proc.devRef .tc main_v12_6)))) : (Proc.devRef .tc main_while0b_v38 : DevRef τ sig).ty.Contents (Elt F)) = Cert.ReferenceIdeal.Step.b31 j s := by
  unfold Cert.ReferenceIdeal.Step.b31
  rw [← al_28 h, ← al_30 h]
  try rfl
set_option maxRecDepth 8192 in
theorem al_32 (h : Holds V0 s j) : (res_main_while0b_v39 V0 : (Proc.devRef .tc main_while0b_v39 : DevRef τ sig).ty.Contents (Elt F)) = Cert.ReferenceIdeal.Step.b32 j s := by
  unfold res_main_while0b_v39 Cert.ReferenceIdeal.Step.b32
  rw [← al_31 h]
  try rfl
set_option maxRecDepth 8192 in
theorem al_33 (h : Holds V0 s j) : (constant S_ .f32 0x3F800000#32 : (Proc.devRef .tc main_while0b_cst_23 : DevRef τ sig).ty.Contents (Elt F)) = Cert.ReferenceIdeal.Step.b33 j s := by
  unfold Cert.ReferenceIdeal.Step.b33
  rfl
set_option maxRecDepth 8192 in
theorem al_34 (h : Holds V0 s j) : (broadcastInDim S1024x64 ![] bcast_S_S1024x64 (constant S_ .f32 0x3F800000#32) : (Proc.devRef .tc main_while0b_v40 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (addf (broadcastInDim S1024x64 ![] bcast_S_S1024x64 (constant S_ .f32 0x3F800000#32)) (res_main_while0b_v39 V0) : (Proc.devRef .tc main_while0b_v41 : DevRef τ sig).ty.Contents (Elt F)) = Cert.ReferenceIdeal.Step.b35 j s := by
  unfold Cert.ReferenceIdeal.Step.b35
  rw [← al_34 h, ← al_32 h]
  try rfl
set_option maxRecDepth 8192 in
theorem al_36 (h : Holds V0 s j) : (constant S_ .f32 0x3F800000#32 : (Proc.devRef .tc main_while0b_cst_24 : DevRef τ sig).ty.Contents (Elt F)) = Cert.ReferenceIdeal.Step.b36 j s := by
  unfold Cert.ReferenceIdeal.Step.b36
  rfl
set_option maxRecDepth 8192 in
theorem al_37 (h : Holds V0 s j) : (broadcastInDim S1024x64 ![] bcast_S_S1024x64 (constant S_ .f32 0x3F800000#32) : (Proc.devRef .tc main_while0b_v42 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (subf (broadcastInDim S1024x64 ![] bcast_S_S1024x64 (constant S_ .f32 0x3F800000#32)) (res_main_while0b_v39 V0) : (Proc.devRef .tc main_while0b_v43 : DevRef τ sig).ty.Contents (Elt F)) = Cert.ReferenceIdeal.Step.b38 j s := by
  unfold Cert.ReferenceIdeal.Step.b38
  rw [← al_37 h, ← al_32 h]
  try rfl
set_option maxRecDepth 8192 in
theorem al_39 (h : Holds V0 s j) : (mulf (addf (broadcastInDim S1024x64 ![] bcast_S_S1024x64 (constant S_ .f32 0x3F800000#32)) (res_main_while0b_v39 V0)) (subf (broadcastInDim S1024x64 ![] bcast_S_S1024x64 (constant S_ .f32 0x3F800000#32)) (res_main_while0b_v39 V0)) : (Proc.devRef .tc main_while0b_v44 : DevRef τ sig).ty.Contents (Elt F)) = Cert.ReferenceIdeal.Step.b39 j s := by
  unfold Cert.ReferenceIdeal.Step.b39
  rw [← al_35 h, ← al_38 h]
  try rfl
set_option maxRecDepth 8192 in
theorem al_40 (h : Holds V0 s j) : (Host.dotGeneral dot_S1024x64_S64x1_S1024x1_1_0_0_1_n_n none (res_main_while0b_v39 V0) (V0 (Proc.devRef .tc main_v12_7)) : (Proc.devRef .tc main_while0b_v45 : DevRef τ sig).ty.Contents (Elt F)) = Cert.ReferenceIdeal.Step.b40 j s := by
  unfold Cert.ReferenceIdeal.Step.b40
  rw [← al_32 h, h.f_7]
  try rfl
set_option maxRecDepth 8192 in
theorem al_41 (h : Holds V0 s j) : (broadcastInDim S1x1 ![1] bcast_S1_S1x1_1 (V0 (Proc.devRef .tc main_v12_8)) : (Proc.devRef .tc main_while0b_v46 : DevRef τ sig).ty.Contents (Elt F)) = Cert.ReferenceIdeal.Step.b41 j s := by
  unfold Cert.ReferenceIdeal.Step.b41
  rw [h.f_8]
  try rfl
set_option maxRecDepth 8192 in
theorem al_42 (h : Holds V0 s j) : (broadcastInDim S1024x1 ![0, 1] bcast_S1x1_S1024x1_0_1 (broadcastInDim S1x1 ![1] bcast_S1_S1x1_1 (V0 (Proc.devRef .tc main_v12_8))) : (Proc.devRef .tc main_while0b_v47 : DevRef τ sig).ty.Contents (Elt F)) = Cert.ReferenceIdeal.Step.b42 j s := by
  unfold Cert.ReferenceIdeal.Step.b42
  rw [← al_41 h]
  try rfl
set_option maxRecDepth 8192 in
theorem al_43 (h : Holds V0 s j) : (addf (Host.dotGeneral dot_S1024x64_S64x1_S1024x1_1_0_0_1_n_n none (res_main_while0b_v39 V0) (V0 (Proc.devRef .tc main_v12_7))) (broadcastInDim S1024x1 ![0, 1] bcast_S1x1_S1024x1_0_1 (broadcastInDim S1x1 ![1] bcast_S1_S1x1_1 (V0 (Proc.devRef .tc main_v12_8)))) : (Proc.devRef .tc main_while0b_v48 : DevRef τ sig).ty.Contents (Elt F)) = Cert.ReferenceIdeal.Step.b43 j s := by
  unfold Cert.ReferenceIdeal.Step.b43
  rw [← al_40 h, ← al_42 h]
  try rfl
set_option maxRecDepth 8192 in
theorem al_44 (h : Holds V0 s j) : (constant S_ .f32 0x00000000#32 : (Proc.devRef .tc main_while0b_cst_25 : DevRef τ sig).ty.Contents (Elt F)) = Cert.ReferenceIdeal.Step.b44 j s := by
  unfold Cert.ReferenceIdeal.Step.b44
  rfl
set_option maxRecDepth 8192 in
theorem al_45 (h : Holds V0 s j) : (Host.reduceAdd (addf (Host.dotGeneral dot_S1024x64_S64x1_S1024x1_1_0_0_1_n_n none (res_main_while0b_v39 V0) (V0 (Proc.devRef .tc main_v12_7))) (broadcastInDim S1024x1 ![0, 1] bcast_S1x1_S1024x1_0_1 (broadcastInDim S1x1 ![1] bcast_S1_S1x1_1 (V0 (Proc.devRef .tc main_v12_8))))) (constant S_ .f32 0x00000000#32) reducesTo_S1024x1_S_d0_1 h_S_ : (Proc.devRef .tc main_while0b_v49 : DevRef τ sig).ty.Contents (Elt F)) = Cert.ReferenceIdeal.Step.b45 j s := by
  unfold Cert.ReferenceIdeal.Step.b45
  rw [← al_43 h, ← al_44 h]
  try rfl
set_option maxRecDepth 8192 in
theorem al_46 (h : Holds V0 s j) : (constant S_ .f32 0x3F800000#32 : (Proc.devRef .tc main_while0b_cst_26 : DevRef τ sig).ty.Contents (Elt F)) = Cert.ReferenceIdeal.Step.b46 j s := by
  unfold Cert.ReferenceIdeal.Step.b46
  rfl
set_option maxRecDepth 8192 in
theorem al_47 (h : Holds V0 s j) : (broadcastInDim S1024x1 ![] bcast_S_S1024x1 (constant S_ .f32 0x3F800000#32) : (Proc.devRef .tc main_while0b_v50 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (Host.dotGeneral dot_S1024x1_S64x1_S1024x64_1_1_0_0_n_n none (broadcastInDim S1024x1 ![] bcast_S_S1024x1 (constant S_ .f32 0x3F800000#32)) (V0 (Proc.devRef .tc main_v12_7)) : (Proc.devRef .tc main_while0b_v51 : DevRef τ sig).ty.Contents (Elt F)) = Cert.ReferenceIdeal.Step.b48 j s := by
  unfold Cert.ReferenceIdeal.Step.b48
  rw [← al_47 h, h.f_7]
  try rfl
set_option maxRecDepth 8192 in
theorem al_49 (h : Holds V0 s j) : (mulf (Host.dotGeneral dot_S1024x1_S64x1_S1024x64_1_1_0_0_n_n none (broadcastInDim S1024x1 ![] bcast_S_S1024x1 (constant S_ .f32 0x3F800000#32)) (V0 (Proc.devRef .tc main_v12_7))) (mulf (addf (broadcastInDim S1024x64 ![] bcast_S_S1024x64 (constant S_ .f32 0x3F800000#32)) (res_main_while0b_v39 V0)) (subf (broadcastInDim S1024x64 ![] bcast_S_S1024x64 (constant S_ .f32 0x3F800000#32)) (res_main_while0b_v39 V0))) : (Proc.devRef .tc main_while0b_v52 : DevRef τ sig).ty.Contents (Elt F)) = Cert.ReferenceIdeal.Step.b49 j s := by
  unfold Cert.ReferenceIdeal.Step.b49
  rw [← al_48 h, ← al_39 h]
  try rfl
set_option maxRecDepth 8192 in
theorem al_50 (h : Holds V0 s j) : (Host.dotGeneral dot_S1024x64_S128x64_S1024x128_1_1_0_0_n_n none (mulf (Host.dotGeneral dot_S1024x1_S64x1_S1024x64_1_1_0_0_n_n none (broadcastInDim S1024x1 ![] bcast_S_S1024x1 (constant S_ .f32 0x3F800000#32)) (V0 (Proc.devRef .tc main_v12_7))) (mulf (addf (broadcastInDim S1024x64 ![] bcast_S_S1024x64 (constant S_ .f32 0x3F800000#32)) (res_main_while0b_v39 V0)) (subf (broadcastInDim S1024x64 ![] bcast_S_S1024x64 (constant S_ .f32 0x3F800000#32)) (res_main_while0b_v39 V0)))) (V0 (Proc.devRef .tc main_v12_5)) : (Proc.devRef .tc main_while0b_v53 : DevRef τ sig).ty.Contents (Elt F)) = Cert.ReferenceIdeal.Step.b50 j s := by
  unfold Cert.ReferenceIdeal.Step.b50
  rw [← al_49 h, h.f_5]
  try rfl
set_option maxRecDepth 8192 in
theorem al_51 (h : Holds V0 s j) : (mulf (Host.dotGeneral dot_S1024x64_S128x64_S1024x128_1_1_0_0_n_n none (mulf (Host.dotGeneral dot_S1024x1_S64x1_S1024x64_1_1_0_0_n_n none (broadcastInDim S1024x1 ![] bcast_S_S1024x1 (constant S_ .f32 0x3F800000#32)) (V0 (Proc.devRef .tc main_v12_7))) (mulf (addf (broadcastInDim S1024x64 ![] bcast_S_S1024x64 (constant S_ .f32 0x3F800000#32)) (res_main_while0b_v39 V0)) (subf (broadcastInDim S1024x64 ![] bcast_S_S1024x64 (constant S_ .f32 0x3F800000#32)) (res_main_while0b_v39 V0)))) (V0 (Proc.devRef .tc main_v12_5))) (mulf (addf (broadcastInDim S1024x128 ![] bcast_S_S1024x128 (constant S_ .f32 0x3F800000#32)) (res_main_while0b_v29 V0)) (subf (broadcastInDim S1024x128 ![] bcast_S_S1024x128 (constant S_ .f32 0x3F800000#32)) (res_main_while0b_v29 V0))) : (Proc.devRef .tc main_while0b_v54 : DevRef τ sig).ty.Contents (Elt F)) = Cert.ReferenceIdeal.Step.b51 j s := by
  unfold Cert.ReferenceIdeal.Step.b51
  rw [← al_50 h, ← al_27 h]
  try rfl
set_option maxRecDepth 8192 in
theorem al_52 (h : Holds V0 s j) : (res_main_while0b_v55 V0 : (Proc.devRef .tc main_while0b_v55 : DevRef τ sig).ty.Contents (Elt F)) = Cert.ReferenceIdeal.Step.b52 j s := by
  unfold res_main_while0b_v55 Cert.ReferenceIdeal.Step.b52
  rw [← al_51 h, h.f_3]
  try rfl
set_option maxRecDepth 8192 in
theorem al_53 (h : Holds V0 s j) : (extractStridedSlice S1024x64 ![0, 0] (res_main_while0b_v55 V0) slices_S1024x65_S1024x64_0_0 : (Proc.devRef .tc main_while0b_v56 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (extractStridedSlice S1024x1 ![0, 64] (res_main_while0b_v55 V0) slices_S1024x65_S1024x1_0_64 : (Proc.devRef .tc main_while0b_v57 : DevRef τ sig).ty.Contents (Elt F)) = Cert.ReferenceIdeal.Step.b54 j s := by
  unfold Cert.ReferenceIdeal.Step.b54
  rw [← al_52 h]
  try rfl
set_option maxRecDepth 8192 in
theorem al_55 (h : Holds V0 s j) : (Host.negf (extractStridedSlice S1024x64 ![0, 0] (res_main_while0b_v55 V0) slices_S1024x65_S1024x64_0_0) : (Proc.devRef .tc main_while0b_v58 : DevRef τ sig).ty.Contents (Elt F)) = Cert.ReferenceIdeal.Step.b55 j s := by
  unfold Cert.ReferenceIdeal.Step.b55
  rw [← al_53 h]
  try rfl
set_option maxRecDepth 8192 in
theorem al_56 (h : Holds V0 s j) : (broadcastInDim S1024x64 ![] bcast_S_S1024x64 (res_main_while0b_v19 V0) : (Proc.devRef .tc main_while0b_v59 : DevRef τ sig).ty.Contents (Elt F)) = Cert.ReferenceIdeal.Step.b56 j s := by
  unfold Cert.ReferenceIdeal.Step.b56
  rw [← al_8 h]
  try rfl
set_option maxRecDepth 8192 in
theorem al_57 (h : Holds V0 s j) : (mulf (Host.negf (extractStridedSlice S1024x64 ![0, 0] (res_main_while0b_v55 V0) slices_S1024x65_S1024x64_0_0)) (broadcastInDim S1024x64 ![] bcast_S_S1024x64 (res_main_while0b_v19 V0)) : (Proc.devRef .tc main_while0b_v60 : DevRef τ sig).ty.Contents (Elt F)) = Cert.ReferenceIdeal.Step.b57 j s := by
  unfold Cert.ReferenceIdeal.Step.b57
  rw [← al_55 h, ← al_56 h]
  try rfl
set_option maxRecDepth 8192 in
theorem al_58 (h : Holds V0 s j) : (addf (V0 (Proc.devRef .tc main_v12_16)) (mulf (Host.negf (extractStridedSlice S1024x64 ![0, 0] (res_main_while0b_v55 V0) slices_S1024x65_S1024x64_0_0)) (broadcastInDim S1024x64 ![] bcast_S_S1024x64 (res_main_while0b_v19 V0))) : (Proc.devRef .tc main_while0b_v61 : DevRef τ sig).ty.Contents (Elt F)) = Cert.ReferenceIdeal.Step.b58 j s := by
  unfold Cert.ReferenceIdeal.Step.b58
  rw [← al_57 h, h.f_16]
  try rfl
set_option maxRecDepth 8192 in
theorem al_59 (h : Holds V0 s j) : (shapeCast S1x1 (res_main_while0b_v16 V0) shapeCasts_S_S1x1 : (Proc.devRef .tc main_while0b_v62 : DevRef τ sig).ty.Contents (Elt F)) = Cert.ReferenceIdeal.Step.b59 j s := by
  unfold Cert.ReferenceIdeal.Step.b59
  rw [← al_1 h]
  try rfl
set_option maxRecDepth 8192 in
theorem al_60 (h : Holds V0 s j) : (Host.dotGeneral dot_S1x1_S1x32_S1x32_1_0_0_1_n_n none (shapeCast S1x1 (res_main_while0b_v16 V0) shapeCasts_S_S1x1) (V0 (Proc.devRef .tc main_v12_9)) : (Proc.devRef .tc main_while0b_v63 : DevRef τ sig).ty.Contents (Elt F)) = Cert.ReferenceIdeal.Step.b60 j s := by
  unfold Cert.ReferenceIdeal.Step.b60
  rw [← al_59 h, h.f_9]
  try rfl
set_option maxRecDepth 8192 in
theorem al_61 (h : Holds V0 s j) : (broadcastInDim S1x32 ![1] bcast_S32_S1x32_1 (V0 (Proc.devRef .tc main_v12_10)) : (Proc.devRef .tc main_while0b_v64 : DevRef τ sig).ty.Contents (Elt F)) = Cert.ReferenceIdeal.Step.b61 j s := by
  unfold Cert.ReferenceIdeal.Step.b61
  rw [h.f_10]
  try rfl
set_option maxRecDepth 8192 in
theorem al_62 (h : Holds V0 s j) : (addf (Host.dotGeneral dot_S1x1_S1x32_S1x32_1_0_0_1_n_n none (shapeCast S1x1 (res_main_while0b_v16 V0) shapeCasts_S_S1x1) (V0 (Proc.devRef .tc main_v12_9))) (broadcastInDim S1x32 ![1] bcast_S32_S1x32_1 (V0 (Proc.devRef .tc main_v12_10))) : (Proc.devRef .tc main_while0b_v65 : DevRef τ sig).ty.Contents (Elt F)) = Cert.ReferenceIdeal.Step.b62 j s := by
  unfold Cert.ReferenceIdeal.Step.b62
  rw [← al_60 h, ← al_61 h]
  try rfl
set_option maxRecDepth 8192 in
theorem al_63 (h : Holds V0 s j) : (constant S_ .f32 0x00000000#32 : (Proc.devRef .tc main_while0b_call3_cst : DevRef τ sig).ty.Contents (Elt F)) = Cert.ReferenceIdeal.Step.b63 j s := by
  unfold Cert.ReferenceIdeal.Step.b63
  rfl
set_option maxRecDepth 8192 in
theorem al_64 (h : Holds V0 s j) : (broadcastInDim S1x32 ![] bcast_S_S1x32 (constant S_ .f32 0x00000000#32) : (Proc.devRef .tc main_while0b_call3_v0 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (maximumf (addf (Host.dotGeneral dot_S1x1_S1x32_S1x32_1_0_0_1_n_n none (shapeCast S1x1 (res_main_while0b_v16 V0) shapeCasts_S_S1x1) (V0 (Proc.devRef .tc main_v12_9))) (broadcastInDim S1x32 ![1] bcast_S32_S1x32_1 (V0 (Proc.devRef .tc main_v12_10)))) (broadcastInDim S1x32 ![] bcast_S_S1x32 (constant S_ .f32 0x00000000#32)) : (Proc.devRef .tc main_while0b_v66 : DevRef τ sig).ty.Contents (Elt F)) = Cert.ReferenceIdeal.Step.b65 j s := by
  unfold Cert.ReferenceIdeal.Step.b65
  rw [← al_62 h, ← al_64 h]
  try rfl
set_option maxRecDepth 8192 in
theorem al_66 (h : Holds V0 s j) : (Host.dotGeneral dot_S1x32_S32x64_S1x64_1_0_0_1_n_n none (maximumf (addf (Host.dotGeneral dot_S1x1_S1x32_S1x32_1_0_0_1_n_n none (shapeCast S1x1 (res_main_while0b_v16 V0) shapeCasts_S_S1x1) (V0 (Proc.devRef .tc main_v12_9))) (broadcastInDim S1x32 ![1] bcast_S32_S1x32_1 (V0 (Proc.devRef .tc main_v12_10)))) (broadcastInDim S1x32 ![] bcast_S_S1x32 (constant S_ .f32 0x00000000#32))) (V0 (Proc.devRef .tc main_v12_11)) : (Proc.devRef .tc main_while0b_v67 : DevRef τ sig).ty.Contents (Elt F)) = Cert.ReferenceIdeal.Step.b66 j s := by
  unfold Cert.ReferenceIdeal.Step.b66
  rw [← al_65 h, h.f_11]
  try rfl
set_option maxRecDepth 8192 in
theorem al_67 (h : Holds V0 s j) : (broadcastInDim S1x64 ![1] bcast_S64_S1x64_1 (V0 (Proc.devRef .tc main_v12_12)) : (Proc.devRef .tc main_while0b_v68 : DevRef τ sig).ty.Contents (Elt F)) = Cert.ReferenceIdeal.Step.b67 j s := by
  unfold Cert.ReferenceIdeal.Step.b67
  rw [h.f_12]
  try rfl
set_option maxRecDepth 8192 in
theorem al_68 (h : Holds V0 s j) : (res_main_while0b_v69 V0 : (Proc.devRef .tc main_while0b_v69 : DevRef τ sig).ty.Contents (Elt F)) = Cert.ReferenceIdeal.Step.b68 j s := by
  unfold res_main_while0b_v69 Cert.ReferenceIdeal.Step.b68
  rw [← al_66 h, ← al_67 h]
  try rfl
set_option maxRecDepth 8192 in
theorem al_69 (h : Holds V0 s j) : (res_main_while0b_call4_cst V0 : (Proc.devRef .tc main_while0b_call4_cst : DevRef τ sig).ty.Contents (Elt F)) = Cert.ReferenceIdeal.Step.b69 j s := by
  unfold res_main_while0b_call4_cst Cert.ReferenceIdeal.Step.b69
  rfl
set_option maxRecDepth 8192 in
theorem al_70 (h : Holds V0 s j) : (broadcastInDim S1x64 ![] bcast_S_S1x64 (res_main_while0b_call4_cst V0) : (Proc.devRef .tc main_while0b_call4_v0 : DevRef τ sig).ty.Contents (Elt F)) = Cert.ReferenceIdeal.Step.b70 j s := by
  unfold Cert.ReferenceIdeal.Step.b70
  rw [← al_69 h]
  try rfl
set_option maxRecDepth 8192 in
theorem al_71 (h : Holds V0 s j) : (maximumf (res_main_while0b_v69 V0) (broadcastInDim S1x64 ![] bcast_S_S1x64 (res_main_while0b_call4_cst V0)) : (Proc.devRef .tc main_while0b_call4_v1 : DevRef τ sig).ty.Contents (Elt F)) = Cert.ReferenceIdeal.Step.b71 j s := by
  unfold Cert.ReferenceIdeal.Step.b71
  rw [← al_68 h, ← al_70 h]
  try rfl
set_option maxRecDepth 8192 in
theorem al_72 (h : Holds V0 s j) : (broadcastInDim S1x64 ![] bcast_S_S1x64 (res_main_while0b_call4_cst V0) : (Proc.devRef .tc main_while0b_call4_v2 : DevRef τ sig).ty.Contents (Elt F)) = Cert.ReferenceIdeal.Step.b72 j s := by
  unfold Cert.ReferenceIdeal.Step.b72
  rw [← al_69 h]
  try rfl
set_option maxRecDepth 8192 in
theorem al_73 (h : Holds V0 s j) : (res_main_while0b_call4_v3 V0 : (Proc.devRef .tc main_while0b_call4_v3 : DevRef τ sig).ty.Contents (Elt F)) = Cert.ReferenceIdeal.Step.b73 j s := by
  unfold res_main_while0b_call4_v3 Cert.ReferenceIdeal.Step.b73
  rw [← al_68 h, ← al_72 h]
  try rfl
set_option maxRecDepth 8192 in
theorem al_74 (h : Holds V0 s j) : (cmpf .une (res_main_while0b_call4_v3 V0) (res_main_while0b_call4_v3 V0) : (Proc.devRef .tc main_while0b_call4_v4 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (broadcastInDim S1x64 ![] bcast_S_S1x64 (res_main_while0b_call4_cst V0) : (Proc.devRef .tc main_while0b_call4_v5 : DevRef τ sig).ty.Contents (Elt F)) = Cert.ReferenceIdeal.Step.b75 j s := by
  unfold Cert.ReferenceIdeal.Step.b75
  rw [← al_69 h]
  try rfl
set_option maxRecDepth 8192 in
theorem al_76 (h : Holds V0 s j) : (addf (res_main_while0b_v69 V0) (broadcastInDim S1x64 ![] bcast_S_S1x64 (res_main_while0b_call4_cst V0)) : (Proc.devRef .tc main_while0b_call4_v6 : DevRef τ sig).ty.Contents (Elt F)) = Cert.ReferenceIdeal.Step.b76 j s := by
  unfold Cert.ReferenceIdeal.Step.b76
  rw [← al_68 h, ← al_75 h]
  try rfl
set_option maxRecDepth 8192 in
theorem al_77 (h : Holds V0 s j) : (Host.absf (res_main_while0b_call4_v3 V0) : (Proc.devRef .tc main_while0b_call4_v7 : DevRef τ sig).ty.Contents (Elt F)) = Cert.ReferenceIdeal.Step.b77 j s := by
  unfold Cert.ReferenceIdeal.Step.b77
  rw [← al_73 h]
  try rfl
set_option maxRecDepth 8192 in
theorem al_78 (h : Holds V0 s j) : (Host.negf (Host.absf (res_main_while0b_call4_v3 V0)) : (Proc.devRef .tc main_while0b_call4_v8 : DevRef τ sig).ty.Contents (Elt F)) = Cert.ReferenceIdeal.Step.b78 j s := by
  unfold Cert.ReferenceIdeal.Step.b78
  rw [← al_77 h]
  try rfl
set_option maxRecDepth 8192 in
theorem al_79 (h : Holds V0 s j) : (Host.exp (Host.negf (Host.absf (res_main_while0b_call4_v3 V0))) : (Proc.devRef .tc main_while0b_call4_v9 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (Host.log1p (Host.exp (Host.negf (Host.absf (res_main_while0b_call4_v3 V0)))) : (Proc.devRef .tc main_while0b_call4_v10 : DevRef τ sig).ty.Contents (Elt F)) = Cert.ReferenceIdeal.Step.b80 j s := by
  unfold Cert.ReferenceIdeal.Step.b80
  rw [← al_79 h]
  try rfl
set_option maxRecDepth 8192 in
theorem al_81 (h : Holds V0 s j) : (addf (maximumf (res_main_while0b_v69 V0) (broadcastInDim S1x64 ![] bcast_S_S1x64 (res_main_while0b_call4_cst V0))) (Host.log1p (Host.exp (Host.negf (Host.absf (res_main_while0b_call4_v3 V0))))) : (Proc.devRef .tc main_while0b_call4_v11 : DevRef τ sig).ty.Contents (Elt F)) = Cert.ReferenceIdeal.Step.b81 j s := by
  unfold Cert.ReferenceIdeal.Step.b81
  rw [← al_71 h, ← al_80 h]
  try rfl
set_option maxRecDepth 8192 in
theorem al_82 (h : Holds V0 s j) : (select (cmpf .une (res_main_while0b_call4_v3 V0) (res_main_while0b_call4_v3 V0)) (addf (res_main_while0b_v69 V0) (broadcastInDim S1x64 ![] bcast_S_S1x64 (res_main_while0b_call4_cst V0))) (addf (maximumf (res_main_while0b_v69 V0) (broadcastInDim S1x64 ![] bcast_S_S1x64 (res_main_while0b_call4_cst V0))) (Host.log1p (Host.exp (Host.negf (Host.absf (res_main_while0b_call4_v3 V0)))))) : (Proc.devRef .tc main_while0b_v70 : DevRef τ sig).ty.Contents (Elt F)) = Cert.ReferenceIdeal.Step.b82 j s := by
  unfold Cert.ReferenceIdeal.Step.b82
  rw [← al_74 h, ← al_76 h, ← al_81 h]
  try rfl
set_option maxRecDepth 8192 in
theorem al_83 (h : Holds V0 s j) : (broadcastInDim S1x64 ![] bcast_S_S1x64 (V0 (Proc.devRef .tc main_v12_13)) : (Proc.devRef .tc main_while0b_v71 : DevRef τ sig).ty.Contents (Elt F)) = Cert.ReferenceIdeal.Step.b83 j s := by
  unfold Cert.ReferenceIdeal.Step.b83
  rw [h.f_13]
  try rfl
set_option maxRecDepth 8192 in
theorem al_84 (h : Holds V0 s j) : (addf (select (cmpf .une (res_main_while0b_call4_v3 V0) (res_main_while0b_call4_v3 V0)) (addf (res_main_while0b_v69 V0) (broadcastInDim S1x64 ![] bcast_S_S1x64 (res_main_while0b_call4_cst V0))) (addf (maximumf (res_main_while0b_v69 V0) (broadcastInDim S1x64 ![] bcast_S_S1x64 (res_main_while0b_call4_cst V0))) (Host.log1p (Host.exp (Host.negf (Host.absf (res_main_while0b_call4_v3 V0))))))) (broadcastInDim S1x64 ![] bcast_S_S1x64 (V0 (Proc.devRef .tc main_v12_13))) : (Proc.devRef .tc main_while0b_v72 : DevRef τ sig).ty.Contents (Elt F)) = Cert.ReferenceIdeal.Step.b84 j s := by
  unfold Cert.ReferenceIdeal.Step.b84
  rw [← al_82 h, ← al_83 h]
  try rfl
set_option maxRecDepth 8192 in
theorem al_85 (h : Holds V0 s j) : (broadcastInDim S1x64 ![] bcast_S_S1x64 (V0 (Proc.devRef .tc main_v12_13)) : (Proc.devRef .tc main_while0b_call5_v0 : DevRef τ sig).ty.Contents (Elt F)) = Cert.ReferenceIdeal.Step.b85 j s := by
  unfold Cert.ReferenceIdeal.Step.b85
  rw [h.f_13]
  try rfl
set_option maxRecDepth 8192 in
theorem al_86 (h : Holds V0 s j) : (maximumf (broadcastInDim S1x64 ![] bcast_S_S1x64 (V0 (Proc.devRef .tc main_v12_13))) (addf (select (cmpf .une (res_main_while0b_call4_v3 V0) (res_main_while0b_call4_v3 V0)) (addf (res_main_while0b_v69 V0) (broadcastInDim S1x64 ![] bcast_S_S1x64 (res_main_while0b_call4_cst V0))) (addf (maximumf (res_main_while0b_v69 V0) (broadcastInDim S1x64 ![] bcast_S_S1x64 (res_main_while0b_call4_cst V0))) (Host.log1p (Host.exp (Host.negf (Host.absf (res_main_while0b_call4_v3 V0))))))) (broadcastInDim S1x64 ![] bcast_S_S1x64 (V0 (Proc.devRef .tc main_v12_13)))) : (Proc.devRef .tc main_while0b_call5_v1 : DevRef τ sig).ty.Contents (Elt F)) = Cert.ReferenceIdeal.Step.b86 j s := by
  unfold Cert.ReferenceIdeal.Step.b86
  rw [← al_85 h, ← al_84 h]
  try rfl
set_option maxRecDepth 8192 in
theorem al_87 (h : Holds V0 s j) : (broadcastInDim S1x64 ![] bcast_S_S1x64 (V0 (Proc.devRef .tc main_v12_14)) : (Proc.devRef .tc main_while0b_call5_v2 : DevRef τ sig).ty.Contents (Elt F)) = Cert.ReferenceIdeal.Step.b87 j s := by
  unfold Cert.ReferenceIdeal.Step.b87
  rw [h.f_14]
  try rfl
set_option maxRecDepth 8192 in
theorem al_88 (h : Holds V0 s j) : (minimumf (broadcastInDim S1x64 ![] bcast_S_S1x64 (V0 (Proc.devRef .tc main_v12_14))) (maximumf (broadcastInDim S1x64 ![] bcast_S_S1x64 (V0 (Proc.devRef .tc main_v12_13))) (addf (select (cmpf .une (res_main_while0b_call4_v3 V0) (res_main_while0b_call4_v3 V0)) (addf (res_main_while0b_v69 V0) (broadcastInDim S1x64 ![] bcast_S_S1x64 (res_main_while0b_call4_cst V0))) (addf (maximumf (res_main_while0b_v69 V0) (broadcastInDim S1x64 ![] bcast_S_S1x64 (res_main_while0b_call4_cst V0))) (Host.log1p (Host.exp (Host.negf (Host.absf (res_main_while0b_call4_v3 V0))))))) (broadcastInDim S1x64 ![] bcast_S_S1x64 (V0 (Proc.devRef .tc main_v12_13))))) : (Proc.devRef .tc main_while0b_v73 : DevRef τ sig).ty.Contents (Elt F)) = Cert.ReferenceIdeal.Step.b88 j s := by
  unfold Cert.ReferenceIdeal.Step.b88
  rw [← al_87 h, ← al_86 h]
  try rfl
set_option maxRecDepth 8192 in
theorem al_89 (h : Holds V0 s j) : (broadcastInDim S1024x64 ![0, 1] bcast_S1x64_S1024x64_0_1 (minimumf (broadcastInDim S1x64 ![] bcast_S_S1x64 (V0 (Proc.devRef .tc main_v12_14))) (maximumf (broadcastInDim S1x64 ![] bcast_S_S1x64 (V0 (Proc.devRef .tc main_v12_13))) (addf (select (cmpf .une (res_main_while0b_call4_v3 V0) (res_main_while0b_call4_v3 V0)) (addf (res_main_while0b_v69 V0) (broadcastInDim S1x64 ![] bcast_S_S1x64 (res_main_while0b_call4_cst V0))) (addf (maximumf (res_main_while0b_v69 V0) (broadcastInDim S1x64 ![] bcast_S_S1x64 (res_main_while0b_call4_cst V0))) (Host.log1p (Host.exp (Host.negf (Host.absf (res_main_while0b_call4_v3 V0))))))) (broadcastInDim S1x64 ![] bcast_S_S1x64 (V0 (Proc.devRef .tc main_v12_13)))))) : (Proc.devRef .tc main_while0b_v74 : DevRef τ sig).ty.Contents (Elt F)) = Cert.ReferenceIdeal.Step.b89 j s := by
  unfold Cert.ReferenceIdeal.Step.b89
  rw [← al_88 h]
  try rfl
set_option maxRecDepth 8192 in
theorem al_90 (h : Holds V0 s j) : (mulf (broadcastInDim S1024x64 ![0, 1] bcast_S1x64_S1024x64_0_1 (minimumf (broadcastInDim S1x64 ![] bcast_S_S1x64 (V0 (Proc.devRef .tc main_v12_14))) (maximumf (broadcastInDim S1x64 ![] bcast_S_S1x64 (V0 (Proc.devRef .tc main_v12_13))) (addf (select (cmpf .une (res_main_while0b_call4_v3 V0) (res_main_while0b_call4_v3 V0)) (addf (res_main_while0b_v69 V0) (broadcastInDim S1x64 ![] bcast_S_S1x64 (res_main_while0b_call4_cst V0))) (addf (maximumf (res_main_while0b_v69 V0) (broadcastInDim S1x64 ![] bcast_S_S1x64 (res_main_while0b_call4_cst V0))) (Host.log1p (Host.exp (Host.negf (Host.absf (res_main_while0b_call4_v3 V0))))))) (broadcastInDim S1x64 ![] bcast_S_S1x64 (V0 (Proc.devRef .tc main_v12_13))))))) (shapeCast S1024x64 (Host.dynamicSlice S1x1024x64 (V0 (Proc.devRef .tc main_v12_2)) (fun k => (((![V0 (Proc.devRef .tc main_v12_15), constantI S_ 32 0#32, constantI S_ 32 0#32] : Fin 3 → (⟨S_, .i32⟩ : BufTy).Contents (Elt F))) k (Shape.Idx.first h_S_)).toInt) sliceFits_S511x1024x64_S1x1024x64) shapeCasts_S1x1024x64_S1024x64) : (Proc.devRef .tc main_while0b_v75 : DevRef τ sig).ty.Contents (Elt F)) = Cert.ReferenceIdeal.Step.b90 j s := by
  unfold Cert.ReferenceIdeal.Step.b90
  rw [← al_89 h, ← al_7 h]
  try rfl
set_option maxRecDepth 8192 in
theorem al_91 (h : Holds V0 s j) : (Host.sqrt (res_main_while0b_v19 V0) : (Proc.devRef .tc main_while0b_v76 : DevRef τ sig).ty.Contents (Elt F)) = Cert.ReferenceIdeal.Step.b91 j s := by
  unfold Cert.ReferenceIdeal.Step.b91
  rw [← al_8 h]
  try rfl
set_option maxRecDepth 8192 in
theorem al_92 (h : Holds V0 s j) : (broadcastInDim S1024x64 ![] bcast_S_S1024x64 (Host.sqrt (res_main_while0b_v19 V0)) : (Proc.devRef .tc main_while0b_v77 : DevRef τ sig).ty.Contents (Elt F)) = Cert.ReferenceIdeal.Step.b92 j s := by
  unfold Cert.ReferenceIdeal.Step.b92
  rw [← al_91 h]
  try rfl
set_option maxRecDepth 8192 in
theorem al_93 (h : Holds V0 s j) : (mulf (mulf (broadcastInDim S1024x64 ![0, 1] bcast_S1x64_S1024x64_0_1 (minimumf (broadcastInDim S1x64 ![] bcast_S_S1x64 (V0 (Proc.devRef .tc main_v12_14))) (maximumf (broadcastInDim S1x64 ![] bcast_S_S1x64 (V0 (Proc.devRef .tc main_v12_13))) (addf (select (cmpf .une (res_main_while0b_call4_v3 V0) (res_main_while0b_call4_v3 V0)) (addf (res_main_while0b_v69 V0) (broadcastInDim S1x64 ![] bcast_S_S1x64 (res_main_while0b_call4_cst V0))) (addf (maximumf (res_main_while0b_v69 V0) (broadcastInDim S1x64 ![] bcast_S_S1x64 (res_main_while0b_call4_cst V0))) (Host.log1p (Host.exp (Host.negf (Host.absf (res_main_while0b_call4_v3 V0))))))) (broadcastInDim S1x64 ![] bcast_S_S1x64 (V0 (Proc.devRef .tc main_v12_13))))))) (shapeCast S1024x64 (Host.dynamicSlice S1x1024x64 (V0 (Proc.devRef .tc main_v12_2)) (fun k => (((![V0 (Proc.devRef .tc main_v12_15), constantI S_ 32 0#32, constantI S_ 32 0#32] : Fin 3 → (⟨S_, .i32⟩ : BufTy).Contents (Elt F))) k (Shape.Idx.first h_S_)).toInt) sliceFits_S511x1024x64_S1x1024x64) shapeCasts_S1x1024x64_S1024x64)) (broadcastInDim S1024x64 ![] bcast_S_S1024x64 (Host.sqrt (res_main_while0b_v19 V0))) : (Proc.devRef .tc main_while0b_v78 : DevRef τ sig).ty.Contents (Elt F)) = Cert.ReferenceIdeal.Step.b93 j s := by
  unfold Cert.ReferenceIdeal.Step.b93
  rw [← al_90 h, ← al_92 h]
  try rfl
set_option maxRecDepth 8192 in
theorem al_94 (h : Holds V0 s j) : (addf (addf (V0 (Proc.devRef .tc main_v12_16)) (mulf (Host.negf (extractStridedSlice S1024x64 ![0, 0] (res_main_while0b_v55 V0) slices_S1024x65_S1024x64_0_0)) (broadcastInDim S1024x64 ![] bcast_S_S1024x64 (res_main_while0b_v19 V0)))) (mulf (mulf (broadcastInDim S1024x64 ![0, 1] bcast_S1x64_S1024x64_0_1 (minimumf (broadcastInDim S1x64 ![] bcast_S_S1x64 (V0 (Proc.devRef .tc main_v12_14))) (maximumf (broadcastInDim S1x64 ![] bcast_S_S1x64 (V0 (Proc.devRef .tc main_v12_13))) (addf (select (cmpf .une (res_main_while0b_call4_v3 V0) (res_main_while0b_call4_v3 V0)) (addf (res_main_while0b_v69 V0) (broadcastInDim S1x64 ![] bcast_S_S1x64 (res_main_while0b_call4_cst V0))) (addf (maximumf (res_main_while0b_v69 V0) (broadcastInDim S1x64 ![] bcast_S_S1x64 (res_main_while0b_call4_cst V0))) (Host.log1p (Host.exp (Host.negf (Host.absf (res_main_while0b_call4_v3 V0))))))) (broadcastInDim S1x64 ![] bcast_S_S1x64 (V0 (Proc.devRef .tc main_v12_13))))))) (shapeCast S1024x64 (Host.dynamicSlice S1x1024x64 (V0 (Proc.devRef .tc main_v12_2)) (fun k => (((![V0 (Proc.devRef .tc main_v12_15), constantI S_ 32 0#32, constantI S_ 32 0#32] : Fin 3 → (⟨S_, .i32⟩ : BufTy).Contents (Elt F))) k (Shape.Idx.first h_S_)).toInt) sliceFits_S511x1024x64_S1x1024x64) shapeCasts_S1x1024x64_S1024x64)) (broadcastInDim S1024x64 ![] bcast_S_S1024x64 (Host.sqrt (res_main_while0b_v19 V0)))) : (Proc.devRef .tc main_while0b_v79 : DevRef τ sig).ty.Contents (Elt F)) = Cert.ReferenceIdeal.Step.b94 j s := by
  unfold Cert.ReferenceIdeal.Step.b94
  rw [← al_58 h, ← al_93 h]
  try rfl
set_option maxRecDepth 8192 in
theorem al_95 (h : Holds V0 s j) : (broadcastInDim S1x1024x64 ![1, 2] bcast_S1024x64_S1x1024x64_1_2 (V0 (Proc.devRef .tc main_v12_16)) : (Proc.devRef .tc main_while0b_call6_v0 : DevRef τ sig).ty.Contents (Elt F)) = Cert.ReferenceIdeal.Step.b95 j s := by
  unfold Cert.ReferenceIdeal.Step.b95
  rw [h.f_16]
  try rfl
set_option maxRecDepth 8192 in
theorem al_96 (h : Holds V0 s j) : (constantI S_ 32 0#32 : (Proc.devRef .tc main_while0b_call6_c : DevRef τ sig).ty.Contents (Elt F)) = Cert.ReferenceIdeal.Step.b96 j s := by
  unfold Cert.ReferenceIdeal.Step.b96
  rfl
set_option maxRecDepth 8192 in
theorem al_97 (h : Holds V0 s j) : (constantI S_ 32 0#32 : (Proc.devRef .tc main_while0b_call6_c_0 : DevRef τ sig).ty.Contents (Elt F)) = Cert.ReferenceIdeal.Step.b97 j s := by
  unfold Cert.ReferenceIdeal.Step.b97
  rfl
set_option maxRecDepth 8192 in
theorem al_98 (h : Holds V0 s j) : (Host.dynamicUpdateSlice (V0 (Proc.devRef .tc main_v12_17)) (broadcastInDim S1x1024x64 ![1, 2] bcast_S1024x64_S1x1024x64_1_2 (V0 (Proc.devRef .tc main_v12_16))) (fun k => (((![V0 (Proc.devRef .tc main_v12_15), constantI S_ 32 0#32, constantI S_ 32 0#32] : Fin 3 → (⟨S_, .i32⟩ : BufTy).Contents (Elt F))) k (Shape.Idx.first h_S_)).toInt) updateFits_S511x1024x64_S1x1024x64 : (Proc.devRef .tc main_while0b_v80 : DevRef τ sig).ty.Contents (Elt F)) = Cert.ReferenceIdeal.Step.b98 j s := by
  unfold Cert.ReferenceIdeal.Step.b98
  rw [← al_95 h, ← al_96 h, ← al_97 h, h.f_17, h.n_15]
  try rfl

/-! One trip's step of the carried values is `step`, field by field; a counter steps to the next number. -/

theorem step_16 (h : Holds V0 s j) : step_main_v12_16 V0 = (step j s).main_v12_16 := by
  unfold step_main_v12_16 Cert.ReferenceIdeal.Step.step
  show id (addf (addf (V0 (Proc.devRef .tc main_v12_16)) (mulf (Host.negf (extractStridedSlice S1024x64 ![0, 0] (res_main_while0b_v55 V0) slices_S1024x65_S1024x64_0_0)) (broadcastInDim S1024x64 ![] bcast_S_S1024x64 (res_main_while0b_v19 V0)))) (mulf (mulf (broadcastInDim S1024x64 ![0, 1] bcast_S1x64_S1024x64_0_1 (minimumf (broadcastInDim S1x64 ![] bcast_S_S1x64 (V0 (Proc.devRef .tc main_v12_14))) (maximumf (broadcastInDim S1x64 ![] bcast_S_S1x64 (V0 (Proc.devRef .tc main_v12_13))) (addf (select (cmpf .une (res_main_while0b_call4_v3 V0) (res_main_while0b_call4_v3 V0)) (addf (res_main_while0b_v69 V0) (broadcastInDim S1x64 ![] bcast_S_S1x64 (res_main_while0b_call4_cst V0))) (addf (maximumf (res_main_while0b_v69 V0) (broadcastInDim S1x64 ![] bcast_S_S1x64 (res_main_while0b_call4_cst V0))) (Host.log1p (Host.exp (Host.negf (Host.absf (res_main_while0b_call4_v3 V0))))))) (broadcastInDim S1x64 ![] bcast_S_S1x64 (V0 (Proc.devRef .tc main_v12_13))))))) (shapeCast S1024x64 (Host.dynamicSlice S1x1024x64 (V0 (Proc.devRef .tc main_v12_2)) (fun k => (((![V0 (Proc.devRef .tc main_v12_15), constantI S_ 32 0#32, constantI S_ 32 0#32] : Fin 3 → (⟨S_, .i32⟩ : BufTy).Contents (Elt F))) k (Shape.Idx.first h_S_)).toInt) sliceFits_S511x1024x64_S1x1024x64) shapeCasts_S1x1024x64_S1024x64)) (broadcastInDim S1024x64 ![] bcast_S_S1024x64 (Host.sqrt (res_main_while0b_v19 V0))))) = _
  rw [al_94 h]
  try rfl
theorem step_17 (h : Holds V0 s j) : step_main_v12_17 V0 = (step j s).main_v12_17 := by
  unfold step_main_v12_17 Cert.ReferenceIdeal.Step.step
  show id (Host.dynamicUpdateSlice (V0 (Proc.devRef .tc main_v12_17)) (broadcastInDim S1x1024x64 ![1, 2] bcast_S1024x64_S1x1024x64_1_2 (V0 (Proc.devRef .tc main_v12_16))) (fun k => (((![V0 (Proc.devRef .tc main_v12_15), constantI S_ 32 0#32, constantI S_ 32 0#32] : Fin 3 → (⟨S_, .i32⟩ : BufTy).Contents (Elt F))) k (Shape.Idx.first h_S_)).toInt) updateFits_S511x1024x64_S1x1024x64) = _
  exact al_98 h
theorem step_15 (h : Holds V0 s j) : step_main_v12_15 V0 = constantI S_ 32 (BitVec.ofNat 32 (j + 1)) := by
  unfold step_main_v12_15
  rw [h.n_15]
  funext i
  show BitVec.ofNat 32 j + 1#32 = BitVec.ofNat 32 (j + 1)
  simp only [BitVec.ofNat_add]

set_option maxRecDepth 8192 in
theorem out_main_v15_holds (h : Holds V0 s j) : out_main_v15 V0 = Cert.ReferenceIdeal.Step.R_main_v15 s := by
  unfold out_main_v15 Cert.ReferenceIdeal.Step.R_main_v15
  rw [h.f_17, h.f_16]
  try rfl

/-- One trip keeps the valuation holding: `step` of the state, the same set-up values, the next number. -/
theorem holds_step (h : Holds V0 s j) : Holds (STEP V0) (step j s) (j + 1) where
  f_16 := (STEP_main_v12_16 V0).trans (step_16 h)
  f_17 := (STEP_main_v12_17 V0).trans (step_17 h)
  n_15 := (STEP_main_v12_15 V0).trans (step_15 h)
  f_0 := (STEP_main_v12_0 V0).trans h.f_0
  f_1 := (STEP_main_v12_1 V0).trans h.f_1
  f_2 := (STEP_main_v12_2 V0).trans h.f_2
  f_3 := (STEP_main_v12_3 V0).trans h.f_3
  f_4 := (STEP_main_v12_4 V0).trans h.f_4
  f_5 := (STEP_main_v12_5 V0).trans h.f_5
  f_6 := (STEP_main_v12_6 V0).trans h.f_6
  f_7 := (STEP_main_v12_7 V0).trans h.f_7
  f_8 := (STEP_main_v12_8 V0).trans h.f_8
  f_9 := (STEP_main_v12_9 V0).trans h.f_9
  f_10 := (STEP_main_v12_10 V0).trans h.f_10
  f_11 := (STEP_main_v12_11 V0).trans h.f_11
  f_12 := (STEP_main_v12_12 V0).trans h.f_12
  f_13 := (STEP_main_v12_13 V0).trans h.f_13
  f_14 := (STEP_main_v12_14 V0).trans h.f_14

/-- The state the first trip starts from, of the memory the run starts from. -/
abbrev initState (m : (ℓ : Loc nD τ sig) → Buf (Elt F) ℓ) (c : Dev nD) : State F :=
  init (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg0)) (m ((c.tc : Thread nD τ).loc main_arg12)) (m ((c.tc : Thread nD τ).loc main_arg13))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 511 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v15) = Cert.ReferenceIdeal.Step.R_main_v15 (it c 511)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    have hk := holds_iter m c (it c) (h0 c) (hs c) 511
    ⟨(h c).1.trans (out_main_v15_holds hk), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2⟩) (Value.run m ρ)

end Cert.Proof.RefStates

end
-- ==== Proof.Equation.lean ====
/-
  The equation: where the precondition holds, the kernel's result and the reference's are one array, the recurrence's states.
-/
module

public import proofs.«01_k».proof.Defs
public import proofs.«01_k».proof.Proof.KernelValue
public import proofs.«01_k».proof.Proof.PreDecode
public import proofs.«01_k».proof.Proof.RefStates

@[expose] public section

noncomputable section

namespace Cert.Proof

open Cert.Proof.HostValues
open Idealize.ShloMosaic Idealize.ShloMosaic.TcCoe
open Idealize.SL Idealize.SL.Sem

/-- The data are good on every core where the precondition holds of the kernel's arguments. -/
theorem good_of_pre (m : (ℓ : Loc Cert.KernelIdeal.nD Cert.KernelIdeal.τ Cert.KernelIdeal.sig) → Buf (Elt Ideal) ℓ)
    (h : Cert.Pre_KernelIdeal_in_range (hPre_in_range := Cert.Pre_in_range.Gen.facts) m) (c : Dev Cert.KernelIdeal.nD) :
    (args m c).Good := by
  unfold args
  exact PreDecode.good _ _ _ _ _ _ _ _ _ _ _ _ _ _ (h c)

/-- The reference's states, from its argument arrays. -/
def refStates (m' : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal :=
  states
    (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))

/-- From the same arguments the reference returns the kernel's result. -/
theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (G : (args m c).Good)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.Step.R_main_v15 (refStates m' c 511) = resultOf m c := by
  unfold refStates
  rw [e0, e1, e2, e3, e4, e5, e6, e7, e8, e9, e10, e11, e12, e13]
  funext x
  obtain ⟨r, a, i, rfl⟩ : ∃ r a i, x = ix3 r a i := ⟨x 0, x 1, x 2, by funext k; fin_cases k <;> rfl⟩
  exact result_eq _ _ _ _ _ _ _ _ _ _ _ _ _ _ G r a i

theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hp e
  refine ⟨fun c => resultOf m c, kernel_run m g (good_of_pre m hp), ?_⟩
  refine (θ_run _ _ _).mono (fun r h c => ⟨(h c).1.trans ?_, (h c).2⟩)
    (RefStates.run_iter m' g' (fun c => refStates m' c) (fun _ => rfl) (fun _ _ => rfl))
  obtain ⟨e0, e1, e2, e3, e4, e5, e6, e7, e8, e9, e10, e11, e12, e13⟩ := e c
  exact ref_result m m' c (good_of_pre m hp c) e0 e1 e2 e3 e4 e5 e6 e7 e8 e9 e10 e11 e12 e13

end Cert.Proof

end
-- ==== Proof.lean ====
/-
  The certificate: every run of the kernel, of its idealized print and of the reference ends with the arguments as they
  were and every semaphore counter at zero, the idealized print rewrites no operation, and over the extended reals, where the
  precondition holds, the kernel and the reference return one array.
-/
module

public import proofs.«01_k».proof.Defs
public import proofs.«01_k».proof.Proof.Frames
public import proofs.«01_k».proof.Proof.Equation

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    frameKernel, frameIdeal, fun m g _ => frameIdeal m g trivial, frameReference, fun m g _ => frameReference m g trivial,
    trivial, algebraic⟩

end Cert.Proof

end
